-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)) (v9 : (c : Dev Cert.KernelIdeal.nD) → Buf (Elt Ideal) ((c.tc : Thread Cert.KernelIdeal.nD Cert.KernelIdeal.τ).loc Cert.KernelIdeal.main_v3_9)) (v10 : (c : Dev Cert.KernelIdeal.nD) → Buf (Elt Ideal) ((c.tc : Thread Cert.KernelIdeal.nD Cert.KernelIdeal.τ).loc Cert.KernelIdeal.main_v3_10)) (v11 : (c : Dev Cert.KernelIdeal.nD) → Buf (Elt Ideal) ((c.tc : Thread Cert.KernelIdeal.nD Cert.KernelIdeal.τ).loc Cert.KernelIdeal.main_v3_11)) (v12 : (c : Dev Cert.KernelIdeal.nD) → Buf (Elt Ideal) ((c.tc : Thread Cert.KernelIdeal.nD Cert.KernelIdeal.τ).loc Cert.KernelIdeal.main_v3_12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_v3_9) = v9 c
          ∧ r.2.mem ((c.tc : Thread Cert.KernelIdeal.nD Cert.KernelIdeal.τ).loc Cert.KernelIdeal.main_v3_10) = v10 c
          ∧ r.2.mem ((c.tc : Thread Cert.KernelIdeal.nD Cert.KernelIdeal.τ).loc Cert.KernelIdeal.main_v3_11) = v11 c
          ∧ r.2.mem ((c.tc : Thread Cert.KernelIdeal.nD Cert.KernelIdeal.τ).loc Cert.KernelIdeal.main_v3_12) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_v2_9) = v9 c
          ∧ r.2.mem ((c.tc : Thread Cert.ReferenceIdeal.nD Cert.ReferenceIdeal.τ).loc Cert.ReferenceIdeal.main_v2_10) = v10 c
          ∧ r.2.mem ((c.tc : Thread Cert.ReferenceIdeal.nD Cert.ReferenceIdeal.τ).loc Cert.ReferenceIdeal.main_v2_11) = v11 c
          ∧ r.2.mem ((c.tc : Thread Cert.ReferenceIdeal.nD Cert.ReferenceIdeal.τ).loc Cert.ReferenceIdeal.main_v2_12) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x2048 : Shape := ⟨2, ![768, 2048]⟩
abbrev S768x128 : Shape := ⟨2, ![768, 128]⟩
abbrev S35x768x128 : Shape := ⟨3, ![35, 768, 128]⟩
abbrev S2048x35x256 : Shape := ⟨3, ![2048, 35, 256]⟩
abbrev S35x256 : Shape := ⟨2, ![35, 256]⟩
abbrev S256 : Shape := ⟨1, ![256]⟩
abbrev S35x2x384x2048 : Shape := ⟨4, ![35, 2, 384, 2048]⟩
abbrev S35x2048x256 : Shape := ⟨3, ![35, 2048, 256]⟩
abbrev S35x256x2048 : Shape := ⟨3, ![35, 256, 2048]⟩
abbrev S35x2048 : Shape := ⟨2, ![35, 2048]⟩
abbrev S1x256 : Shape := ⟨2, ![1, 256]⟩
abbrev S35x768x2048 : Shape := ⟨3, ![35, 768, 2048]⟩
abbrev S35x2x384 : Shape := ⟨3, ![35, 2, 384]⟩
abbrev S2x35x384x256 : Shape := ⟨4, ![2, 35, 384, 256]⟩
abbrev S35x768x256 : Shape := ⟨3, ![35, 768, 256]⟩
abbrev S1x384x128 : Shape := ⟨3, ![1, 384, 128]⟩
abbrev S1x2048x256 : Shape := ⟨3, ![1, 2048, 256]⟩
abbrev S1x384x2048 : Shape := ⟨3, ![1, 384, 2048]⟩
abbrev S1x256x2048 : Shape := ⟨3, ![1, 256, 2048]⟩
abbrev S1x2x384 : Shape := ⟨3, ![1, 2, 384]⟩
abbrev S1x1x384x256 : Shape := ⟨4, ![1, 1, 384, 256]⟩
abbrev S1x384x256 : Shape := ⟨3, ![1, 384, 256]⟩
abbrev S2048x256 : Shape := ⟨2, ![2048, 256]⟩
abbrev S256x2048 : Shape := ⟨2, ![256, 2048]⟩
abbrev S1x2048 : Shape := ⟨2, ![1, 2048]⟩
abbrev S1x128 : Shape := ⟨2, ![1, 128]⟩
abbrev S128x2048 : Shape := ⟨2, ![128, 2048]⟩
abbrev S128x256 : Shape := ⟨2, ![128, 256]⟩
abbrev S128x1 : Shape := ⟨2, ![128, 1]⟩
abbrev S1x1x128x256 : Shape := ⟨4, ![1, 1, 128, 256]⟩
abbrev S128x128 : Shape := ⟨2, ![128, 128]⟩
abbrev S128 : Shape := ⟨1, ![128]⟩
abbrev S1x128x128 : Shape := ⟨3, ![1, 128, 128]⟩
abbrev S1x128x2048 : Shape := ⟨3, ![1, 128, 2048]⟩
abbrev S1x128x256 : Shape := ⟨3, ![1, 128, 256]⟩
abbrev S1x1x128 : Shape := ⟨3, ![1, 1, 128]⟩

abbrev nBuf : Space → Nat
  | .hbm => 29
  | .vmem => 47
  | .smem => 0
  | _ => 0

abbrev bufTy : (tb : Table) → Fin (tcTables nBuf tb) → BufTy
  | .hbm, ⟨0, _⟩ => ⟨S768x2048, .i8⟩
  | .hbm, ⟨1, _⟩ => ⟨S768x128, .f32⟩
  | .hbm, ⟨2, _⟩ => ⟨S35x768x128, .i8⟩
  | .hbm, ⟨3, _⟩ => ⟨S768x128, .f32⟩
  | .hbm, ⟨4, _⟩ => ⟨S2048x35x256, .i8⟩
  | .hbm, ⟨5, _⟩ => ⟨S35x256, .f32⟩
  | .hbm, ⟨6, _⟩ => ⟨S256, .f32⟩
  | .hbm, ⟨7, _⟩ => ⟨S35x2x384x2048, .bf16⟩
  | .hbm, ⟨8, _⟩ => ⟨S35x2048x256, .i8⟩
  | .hbm, ⟨9, _⟩ => ⟨S35x256, .f32⟩
  | .hbm, ⟨10, _⟩ => ⟨S35x256x2048, .i8⟩
  | .hbm, ⟨11, _⟩ => ⟨S35x2048, .f32⟩
  | .hbm, ⟨12, _⟩ => ⟨S35x2048, .f32⟩
  | .hbm, ⟨13, _⟩ => ⟨S35x2048x256, .i8⟩
  | .hbm, ⟨14, _⟩ => ⟨S1x256, .f32⟩
  | .hbm, ⟨15, _⟩ => ⟨S35x768x2048, .bf16⟩
  | .hbm, ⟨16, _⟩ => ⟨S35x768x2048, .bf16⟩
  | .hbm, ⟨17, _⟩ => ⟨S35x2x384, .f32⟩
  | .hbm, ⟨18, _⟩ => ⟨S35x2x384, .f32⟩
  | .hbm, ⟨19, _⟩ => ⟨S2x35x384x256, .i8⟩
  | .hbm, ⟨20, _⟩ => ⟨S35x2x384, .f32⟩
  | .hbm, ⟨21, _⟩ => ⟨S35x768x2048, .i8⟩
  | .hbm, ⟨22, _⟩ => ⟨S35x2x384, .f32⟩
  | .hbm, ⟨23, _⟩ => ⟨S35x768x256, .i8⟩
  | .hbm, ⟨24, _⟩ => ⟨S35x2x384, .f32⟩
  | .hbm, ⟨25, _⟩ => ⟨S2x35x384x256, .f32⟩
  | .hbm, ⟨26, _⟩ => ⟨S35x768x256, .f32⟩
  | .hbm, ⟨27, _⟩ => ⟨S35x768x256, .f32⟩
  | .hbm, ⟨28, _⟩ => ⟨S35x768x2048, .f32⟩
  | .local _ .vmem, ⟨0, _⟩ => ⟨S768x2048, .i8⟩
  | .local _ .vmem, ⟨1, _⟩ => ⟨S768x128, .f32⟩
  | .local _ .vmem, ⟨2, _⟩ => ⟨S1x384x128, .i8⟩
  | .local _ .vmem, ⟨3, _⟩ => ⟨S1x384x128, .i8⟩
  | .local _ .vmem, ⟨4, _⟩ => ⟨S768x128, .f32⟩
  | .local _ .vmem, ⟨5, _⟩ => ⟨S1x2048x256, .i8⟩
  | .local _ .vmem, ⟨6, _⟩ => ⟨S1x2048x256, .i8⟩
  | .local _ .vmem, ⟨7, _⟩ => ⟨S35x256, .f32⟩
  | .local _ .vmem, ⟨8, _⟩ => ⟨S1x256, .f32⟩
  | .local _ .vmem, ⟨9, _⟩ => ⟨S1x384x2048, .bf16⟩
  | .local _ .vmem, ⟨10, _⟩ => ⟨S1x384x2048, .bf16⟩
  | .local _ .vmem, ⟨11, _⟩ => ⟨S1x2048x256, .i8⟩
  | .local _ .vmem, ⟨12, _⟩ => ⟨S1x2048x256, .i8⟩
  | .local _ .vmem, ⟨13, _⟩ => ⟨S35x256, .f32⟩
  | .local _ .vmem, ⟨14, _⟩ => ⟨S1x256x2048, .i8⟩
  | .local _ .vmem, ⟨15, _⟩ => ⟨S1x256x2048, .i8⟩
  | .local _ .vmem, ⟨16, _⟩ => ⟨S35x2048, .f32⟩
  | .local _ .vmem, ⟨17, _⟩ => ⟨S35x2048, .f32⟩
  | .local _ .vmem, ⟨18, _⟩ => ⟨S1x384x2048, .bf16⟩
  | .local _ .vmem, ⟨19, _⟩ => ⟨S1x384x2048, .bf16⟩
  | .local _ .vmem, ⟨20, _⟩ => ⟨S1x2x384, .f32⟩
  | .local _ .vmem, ⟨21, _⟩ => ⟨S1x2x384, .f32⟩
  | .local _ .vmem, ⟨22, _⟩ => ⟨S1x2x384, .f32⟩
  | .local _ .vmem, ⟨23, _⟩ => ⟨S1x2x384, .f32⟩
  | .local _ .vmem, ⟨24, _⟩ => ⟨S1x1x384x256, .i8⟩
  | .local _ .vmem, ⟨25, _⟩ => ⟨S1x1x384x256, .i8⟩
  | .local _ .vmem, ⟨26, _⟩ => ⟨S1x2x384, .f32⟩
  | .local _ .vmem, ⟨27, _⟩ => ⟨S1x2x384, .f32⟩
  | .local _ .vmem, ⟨28, _⟩ => ⟨S1x384x2048, .i8⟩
  | .local _ .vmem, ⟨29, _⟩ => ⟨S1x384x2048, .i8⟩
  | .local _ .vmem, ⟨30, _⟩ => ⟨S1x2x384, .f32⟩
  | .local _ .vmem, ⟨31, _⟩ => ⟨S1x2x384, .f32⟩
  | .local _ .vmem, ⟨32, _⟩ => ⟨S1x384x256, .i8⟩
  | .local _ .vmem, ⟨33, _⟩ => ⟨S1x384x256, .i8⟩
  | .local _ .vmem, ⟨34, _⟩ => ⟨S1x2x384, .f32⟩
  | .local _ .vmem, ⟨35, _⟩ => ⟨S1x2x384, .f32⟩
  | .local _ .vmem, ⟨36, _⟩ => ⟨S1x1x384x256, .f32⟩
  | .local _ .vmem, ⟨37, _⟩ => ⟨S1x1x384x256, .f32⟩
  | .local _ .vmem, ⟨38, _⟩ => ⟨S1x384x256, .f32⟩
  | .local _ .vmem, ⟨39, _⟩ => ⟨S1x384x256, .f32⟩
  | .local _ .vmem, ⟨40, _⟩ => ⟨S1x384x256, .f32⟩
  | .local _ .vmem, ⟨41, _⟩ => ⟨S1x384x256, .f32⟩
  | .local _ .vmem, ⟨42, _⟩ => ⟨S1x384x2048, .f32⟩
  | .local _ .vmem, ⟨43, _⟩ => ⟨S1x384x2048, .f32⟩
  | .local _ .vmem, ⟨44, _⟩ => ⟨S2048x256, .bf16⟩
  | .local _ .vmem, ⟨45, _⟩ => ⟨S2048x256, .bf16⟩
  | .local _ .vmem, ⟨46, _⟩ => ⟨S256x2048, .bf16⟩
  | _, _ => ⟨S768x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v3_4 : Ref sig .tc := ⟨.hbm, 20, rfl⟩
abbrev main_v3_5 : Ref sig .tc := ⟨.hbm, 21, rfl⟩
abbrev main_v3_6 : Ref sig .tc := ⟨.hbm, 22, rfl⟩
abbrev main_v3_7 : Ref sig .tc := ⟨.hbm, 23, rfl⟩
abbrev main_v3_8 : Ref sig .tc := ⟨.hbm, 24, rfl⟩
abbrev main_v3_9 : Ref sig .tc := ⟨.hbm, 25, rfl⟩
abbrev main_v3_10 : Ref sig .tc := ⟨.hbm, 26, rfl⟩
abbrev main_v3_11 : Ref sig .tc := ⟨.hbm, 27, rfl⟩
abbrev main_v3_12 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43

abbrev nD : Nat := 1
abbrev τ : Topo := Topo.v7x

variable {F : FTy → Type} [FloatOps F]

abbrev grid0 : Pipeline.Grid := ⟨2, ![35, 2], ![false, false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_off2 (i : grid0.Coords) : Fin 2 → Nat :=
  let arg0 : BitVec 32 := BitVec.ofNat 32 (i 0).val
  let v7 : Index := Scalar.indexCast arg0
  let c0_2 : Index := 0#32
  ![v7.toNat, 0]
def k0_mult1 (i : grid0.Coords) : BitVec 32 :=
  let arg1 : BitVec 32 := BitVec.ofNat 32 (i 1).val
  let c384_i32 : BitVec 32 := 384#32
  let v14 : BitVec 32 := Scalar.muli arg1 c384_i32
  v14
def k0_off3 (i : grid0.Coords) (c0_i32_6 : BitVec 32) : Fin 2 → Nat :=
  let arg1 : BitVec 32 := BitVec.ofNat 32 (i 1).val
  let c384_i32 : BitVec 32 := 384#32
  let v14 : BitVec 32 := Scalar.muli arg1 c384_i32
  let v15 : BitVec 32 := v14
  let v16 : BitVec 32 := Scalar.addi v15 c0_i32_6
  let v17 : Index := Scalar.indexCast v16
  let c0_7 : Index := 0#32
  ![v17.toNat, 0]
def k0_off4 (i : grid0.Coords) (c0_i32_6 : BitVec 32) : Fin 2 → Nat :=
  let arg1 : BitVec 32 := BitVec.ofNat 32 (i 1).val
  let c384_i32 : BitVec 32 := 384#32
  let v14 : BitVec 32 := Scalar.muli arg1 c384_i32
  let v15 : BitVec 32 := v14
  let v16 : BitVec 32 := Scalar.addi v15 c0_i32_6
  let v22 : Index := Scalar.indexCast v16
  let c0_10 : Index := 0#32
  ![v22.toNat, 0]
def k0_off5 (i : grid0.Coords) (c0_i32_6 : BitVec 32) : Fin 2 → Nat :=
  let arg1 : BitVec 32 := BitVec.ofNat 32 (i 1).val
  let c384_i32 : BitVec 32 := 384#32
  let v14 : BitVec 32 := Scalar.muli arg1 c384_i32
  let v15 : BitVec 32 := v14
  let v16 : BitVec 32 := Scalar.addi v15 c0_i32_6
  let v61 : Index := Scalar.indexCast v16
  let c0_23 : Index := 0#32
  ![v61.toNat, 0]
def k0_cond2 (i : grid0.Coords) : BitVec 1 :=
  let arg1 : BitVec 32 := BitVec.ofNat 32 (i 1).val
  let c0_i32_242 : BitVec 32 := 0#32
  let v784 : BitVec 1 := Scalar.cmpi .eq arg1 c0_i32_242
  let v785 : BitVec 32 := Scalar.extui v784
  let c0_i32_243 : BitVec 32 := 0#32
  let v786 : BitVec 1 := Scalar.cmpi .ne v785 c0_i32_243
  v786

def k0_cond3 (i : grid0.Coords) : BitVec 1 :=
  let arg1 : BitVec 32 := BitVec.ofNat 32 (i 1).val
  let c1_i32 : BitVec 32 := 1#32
  let v787 : BitVec 1 := Scalar.cmpi .eq arg1 c1_i32
  let v788 : BitVec 32 := Scalar.extui v787
  let c0_i32_244 : BitVec 32 := 0#32
  let v789 : BitVec 1 := Scalar.cmpi .ne v788 c0_i32_244
  v789

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S768x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x384x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S35x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x384x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S35x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S35x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S35x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x384x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x2x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x384x256 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x384x2048 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x384 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x384x256 .i8 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x1x384x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x384x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x384x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x384x2048 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== ReferenceIdeal.lean ====
abbrev S768x2048 : Shape := ⟨2, ![768, 2048]⟩
abbrev S768x128 : Shape := ⟨2, ![768, 128]⟩
abbrev S35x768x128 : Shape := ⟨3, ![35, 768, 128]⟩
abbrev S2048x35x256 : Shape := ⟨3, ![2048, 35, 256]⟩
abbrev S35x256 : Shape := ⟨2, ![35, 256]⟩
abbrev S256 : Shape := ⟨1, ![256]⟩
abbrev S35x2x384x2048 : Shape := ⟨4, ![35, 2, 384, 2048]⟩
abbrev S35x2048x256 : Shape := ⟨3, ![35, 2048, 256]⟩
abbrev S35x256x2048 : Shape := ⟨3, ![35, 256, 2048]⟩
abbrev S35x2048 : Shape := ⟨2, ![35, 2048]⟩
abbrev S35x768x2048 : Shape := ⟨3, ![35, 768, 2048]⟩
abbrev S35x2x384 : Shape := ⟨3, ![35, 2, 384]⟩
abbrev S2x35x384x256 : Shape := ⟨4, ![2, 35, 384, 256]⟩
abbrev S35x768x256 : Shape := ⟨3, ![35, 768, 256]⟩
abbrev S1x768x2048 : Shape := ⟨3, ![1, 768, 2048]⟩
abbrev S768x1 : Shape := ⟨2, ![768, 1]⟩
abbrev S1x768x1 : Shape := ⟨3, ![1, 768, 1]⟩
abbrev S35x1x256 : Shape := ⟨3, ![35, 1, 256]⟩
abbrev S35x768 : Shape := ⟨2, ![35, 768]⟩
abbrev S35x768x1 : Shape := ⟨3, ![35, 768, 1]⟩
abbrev S1x1x256 : Shape := ⟨3, ![1, 1, 256]⟩
abbrev S128x768 : Shape := ⟨2, ![128, 768]⟩
abbrev S35x1x2048 : Shape := ⟨3, ![35, 1, 2048]⟩
abbrev S35x2x384x256 : Shape := ⟨4, ![35, 2, 384, 256]⟩

abbrev nBuf : Space → Nat
  | .hbm => 28
  | .vmem => 26
  | .smem => 0
  | _ => 0

abbrev bufTy : (tb : Table) → Fin (tcTables nBuf tb) → BufTy
  | .hbm, ⟨0, _⟩ => ⟨S768x2048, .i8⟩
  | .hbm, ⟨1, _⟩ => ⟨S768x128, .f32⟩
  | .hbm, ⟨2, _⟩ => ⟨S35x768x128, .i8⟩
  | .hbm, ⟨3, _⟩ => ⟨S768x128, .f32⟩
  | .hbm, ⟨4, _⟩ => ⟨S2048x35x256, .i8⟩
  | .hbm, ⟨5, _⟩ => ⟨S35x256, .f32⟩
  | .hbm, ⟨6, _⟩ => ⟨S256, .f32⟩
  | .hbm, ⟨7, _⟩ => ⟨S35x2x384x2048, .bf16⟩
  | .hbm, ⟨8, _⟩ => ⟨S35x2048x256, .i8⟩
  | .hbm, ⟨9, _⟩ => ⟨S35x256, .f32⟩
  | .hbm, ⟨10, _⟩ => ⟨S35x256x2048, .i8⟩
  | .hbm, ⟨11, _⟩ => ⟨S35x2048, .f32⟩
  | .hbm, ⟨12, _⟩ => ⟨S35x2048, .f32⟩
  | .hbm, ⟨13, _⟩ => ⟨S35x2048x256, .i8⟩
  | .hbm, ⟨14, _⟩ => ⟨S35x768x2048, .bf16⟩
  | .hbm, ⟨15, _⟩ => ⟨S35x768x2048, .bf16⟩
  | .hbm, ⟨16, _⟩ => ⟨S35x2x384, .f32⟩
  | .hbm, ⟨17, _⟩ => ⟨S35x2x384, .f32⟩
  | .hbm, ⟨18, _⟩ => ⟨S2x35x384x256, .i8⟩
  | .hbm, ⟨19, _⟩ => ⟨S35x2x384, .f32⟩
  | .hbm, ⟨20, _⟩ => ⟨S35x768x2048, .i8⟩
  | .hbm, ⟨21, _⟩ => ⟨S35x2x384, .f32⟩
  | .hbm, ⟨22, _⟩ => ⟨S35x768x256, .i8⟩
  | .hbm, ⟨23, _⟩ => ⟨S35x2x384, .f32⟩
  | .hbm, ⟨24, _⟩ => ⟨S2x35x384x256, .f32⟩
  | .hbm, ⟨25, _⟩ => ⟨S35x768x256, .f32⟩
  | .hbm, ⟨26, _⟩ => ⟨S35x768x256, .f32⟩
  | .hbm, ⟨27, _⟩ => ⟨S35x768x2048, .f32⟩
  | .local _ .vmem, ⟨0, _⟩ => ⟨S768x2048, .i8⟩
  | .local _ .vmem, ⟨1, _⟩ => ⟨S768x128, .f32⟩
  | .local _ .vmem, ⟨2, _⟩ => ⟨S35x768x128, .i8⟩
  | .local _ .vmem, ⟨3, _⟩ => ⟨S768x128, .f32⟩
  | .local _ .vmem, ⟨4, _⟩ => ⟨S35x2048x256, .i8⟩
  | .local _ .vmem, ⟨5, _⟩ => ⟨S35x256, .f32⟩
  | .local _ .vmem, ⟨6, _⟩ => ⟨S256, .f32⟩
  | .local _ .vmem, ⟨7, _⟩ => ⟨S35x768x2048, .bf16⟩
  | .local _ .vmem, ⟨8, _⟩ => ⟨S35x2048x256, .i8⟩
  | .local _ .vmem, ⟨9, _⟩ => ⟨S35x256, .f32⟩
  | .local _ .vmem, ⟨10, _⟩ => ⟨S35x256x2048, .i8⟩
  | .local _ .vmem, ⟨11, _⟩ => ⟨S35x2048, .f32⟩
  | .local _ .vmem, ⟨12, _⟩ => ⟨S35x2048, .f32⟩
  | .local _ .vmem, ⟨13, _⟩ => ⟨S35x768x2048, .bf16⟩
  | .local _ .vmem, ⟨14, _⟩ => ⟨S35x2x384, .f32⟩
  | .local _ .vmem, ⟨15, _⟩ => ⟨S35x2x384, .f32⟩
  | .local _ .vmem, ⟨16, _⟩ => ⟨S2x35x384x256, .i8⟩
  | .local _ .vmem, ⟨17, _⟩ => ⟨S35x2x384, .f32⟩
  | .local _ .vmem, ⟨18, _⟩ => ⟨S35x768x2048, .i8⟩
  | .local _ .vmem, ⟨19, _⟩ => ⟨S35x2x384, .f32⟩
  | .local _ .vmem, ⟨20, _⟩ => ⟨S35x768x256, .i8⟩
  | .local _ .vmem, ⟨21, _⟩ => ⟨S35x2x384, .f32⟩
  | .local _ .vmem, ⟨22, _⟩ => ⟨S2x35x384x256, .f32⟩
  | .local _ .vmem, ⟨23, _⟩ => ⟨S35x768x256, .f32⟩
  | .local _ .vmem, ⟨24, _⟩ => ⟨S35x768x256, .f32⟩
  | .local _ .vmem, ⟨25, _⟩ => ⟨S35x768x2048, .f32⟩
  | _, _ => ⟨S768x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v2_4 : Ref sig .tc := ⟨.hbm, 19, rfl⟩
abbrev main_v2_5 : Ref sig .tc := ⟨.hbm, 20, rfl⟩
abbrev main_v2_6 : Ref sig .tc := ⟨.hbm, 21, rfl⟩
abbrev main_v2_7 : Ref sig .tc := ⟨.hbm, 22, rfl⟩
abbrev main_v2_8 : Ref sig .tc := ⟨.hbm, 23, rfl⟩
abbrev main_v2_9 : Ref sig .tc := ⟨.hbm, 24, rfl⟩
abbrev main_v2_10 : Ref sig .tc := ⟨.hbm, 25, rfl⟩
abbrev main_v2_11 : Ref sig .tc := ⟨.hbm, 26, rfl⟩
abbrev main_v2_12 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := .none

abbrev stage0_0 : Fin 1 → Memref sig .tc .vmem S768x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S35x768x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S35x2048x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S35x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S35x768x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S35x2048x256 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S35x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S35x256x2048 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S35x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S35x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S35x768x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S35x2x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S35x2x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x35x384x256 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S35x2x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S35x768x2048 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S35x2x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S35x768x256 .i8 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S35x2x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x35x384x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S35x768x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S35x768x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S35x768x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== Proof.KVal.Runs.lean ====
/- What the runs of the kernel's body share: its branch conditions in closed form over the grid points, the staging
   memrefs that each window has at a point, and the scratch operands. -/
module

public import proofs.«01_k».proof.Proof.Gen.KernelIdeal.Frame
public import proofs.«01_k».proof.Proof.Gen.KernelIdeal.Skeleton

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 70 := Nat.lt_of_lt_of_eq t.isLt N_0
    have e0 : (grid0.coords t 0).val = t.val / 2 % 35 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 0 (mod 2) — by arithmetic of the point. -/
theorem hcond0_1 : ∀ t : Fin cfg0.N, cond0_1 (grid0.coords t) ↔ t.val % 2 = 0 :=
  (fun t => by
    have ht : t.val < 70 := Nat.lt_of_lt_of_eq t.isLt N_0
    have e0 : (grid0.coords t 0).val = t.val / 2 % 35 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — by arithmetic of the point. -/
theorem hcond0_2 : ∀ t : Fin cfg0.N, cond0_2 (grid0.coords t) ↔ t.val % 2 = 1 :=
  (fun t => by
    have ht : t.val < 70 := Nat.lt_of_lt_of_eq t.isLt N_0
    have e0 : (grid0.coords t 0).val = t.val / 2 % 35 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S768x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S35x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S35x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x2048 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S35x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S35x2048 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x384x2048 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2x384 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x2x384 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x384x256 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x2x384 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x384x2048 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x2x384 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x384x256 .i8 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x2x384 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1x384x256 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x384x256 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x384x256 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x384x2048 .f32 := win0_25.stage (cfg0.slots t 25)
abbrev hs0_25 (t : Fin cfg0.N) : (ms0_25 t).IsWhole := hstage0_25 ((cfg0.slots t 25).cast nbuf0_25)
/-- The scratch operands: whole scoped buffers of the kernel's own, passed beside the windows. -/
abbrev scM0_0 : Memref sig .tc .vmem S2048x256 .bf16 := Memref.whole cc0_scratch0
abbrev scM0_1 : Memref sig .tc .vmem S2048x256 .bf16 := Memref.whole cc0_scratch1
abbrev scM0_2 : Memref sig .tc .vmem S256x2048 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Val

end
-- ==== Proof.Spec.Row.lean ====
/- The mathematics of one row: what the injection computes for one token of one layer, over the extended reals, from the
   token's quantised context, the layer's weights and the token's hidden row. Both programs are read down to it. -/
module

public import Idealize.ShloMosaic.Lib.Pointwise

@[expose] public section

noncomputable section

namespace Cert.Spec

open Idealize Idealize.ShloMosaic

/-- The extended real that a signed word stands for. -/
abbrev int {w : ℕ} (b : BitVec w) : EReal := ((b.toInt : ℝ) : EReal)

/-- The real number that a float32 word stands for. -/
abbrev lit (b : BitVec 32) : EReal := Ideal.ofBits .f32 b

/-- The greatest magnitude in a row. -/
def amax {n : ℕ} (x : Fin n → EReal) : EReal :=
  Finset.univ.fold max (lit 0xFF800000#32) fun k => max (x k) (-x k)

/-- The scale of the symmetric int8 quantiser: the greatest magnitude over 127, or one for a row of zeros. -/
def scaleOf (a : EReal) : EReal := if a = 0 then 1 else Ideal.div a (lit 0x42FE0000#32)

/-- The quantiser's code, as a number: the quotient rounded to nearest even and clipped to `[-127, 127]`. -/
def quant (v s : EReal) : EReal :=
  min (lit 0x42FE0000#32) (max (lit 0xC2FE0000#32) (Ideal.liftRound Ideal.roundHalfEven (Ideal.div v s)))

/-- The root mean square of a row, its sum of squares given and divided by `n`. -/
def rmsOf (s n : EReal) : EReal := Ideal.sqrt (Ideal.div s n + lit 0x358637BD#32)

/-- GELU, by its tanh approximation. -/
def gelu (x : EReal) : EReal :=
  x * (lit 0x3F000000#32 * (lit 0x3F800000#32 + Ideal.tanh (lit 0x3F4C422A#32 * (x + lit 0x3D372713#32 * (x * (x * x))))))

/-- The four-bit code in the low half of a byte, as a 32-bit word. -/
def lo (b : BitVec 8) : BitVec 32 := ((b.signExtend 32 &&& 15#32) ^^^ 8#32) - 8#32

/-- The four-bit code in the high half of a byte, as a 32-bit word. -/
def hi (b : BitVec 8) : BitVec 32 := (((b.signExtend 32).sshiftRight 4 &&& 15#32) ^^^ 8#32) - 8#32

/-- What one row of the result depends on: the context codes `ec` with their scale `es`, the projection `wp` with its
    scales `wps` and the gain `gs`, the embedding's bytes with their scale `ps`, the hidden row `h`, the gate `wg` and the
    output projection `wo` with their scales, and the output gain `gp`. -/
structure Row where
  ec : Fin 2048 → EReal
  es : EReal
  wp : Fin 2048 → Fin 256 → EReal
  wps : Fin 256 → EReal
  gs : Fin 256 → EReal
  pb : Fin 128 → BitVec 8
  ps : EReal
  h : Fin 2048 → EReal
  wg : Fin 2048 → Fin 256 → EReal
  wgs : Fin 256 → EReal
  wo : Fin 256 → Fin 2048 → EReal
  wos : Fin 2048 → EReal
  gp : Fin 2048 → EReal

namespace Row

variable (R : Row)

/-- The projected context. -/
def p (c : Fin 256) : EReal := (∑ k, R.ec k * R.wp k c) * R.es * R.wps c * lit 0x3CB504F3#32

/-- Its root mean square. -/
def seg : EReal := rmsOf (∑ c, R.p c * R.p c) (lit 0x43800000#32)

/-- The embedding's four-bit code at a channel. -/
def code (c : Fin 256) : BitVec 32 :=
  if h : c.val < 128 then lo (R.pb ⟨c.val, h⟩) else hi (R.pb ⟨c.val - 128, by omega⟩)

/-- The normalised context and the dequantised embedding, combined. -/
def comb (c : Fin 256) : EReal :=
  (Ideal.div (R.p c) R.seg * R.gs c + int (R.code c) * R.ps * lit 0x41800000#32) * lit 0x3F3504F3#32

/-- The combined row's scale. -/
def cs : EReal := scaleOf (amax R.comb)

/-- The combined row's codes. -/
def cc (c : Fin 256) : EReal := quant (R.comb c) R.cs

/-- The hidden row's scale. -/
def hs : EReal := scaleOf (amax R.h)

/-- The hidden row's codes. -/
def hc (k : Fin 2048) : EReal := quant (R.h k) R.hs

/-- The gate before its activation. -/
def gl (d : Fin 256) : EReal := (∑ k, R.hc k * R.wg k d) * R.hs * R.wgs d

/-- The gated row. -/
def t (d : Fin 256) : EReal := gelu (R.gl d) * (R.cc d * R.cs)

/-- The gated row's scale. -/
def ts : EReal := scaleOf (amax R.t)

/-- The gated row's codes. -/
def tc (d : Fin 256) : EReal := quant (R.t d) R.ts

/-- The output projection. -/
def y (n : Fin 2048) : EReal := (∑ d, R.tc d * R.wo d n) * R.ts * R.wos n

/-- Its root mean square. -/
def post : EReal := rmsOf (∑ n, R.y n * R.y n) (lit 0x45000000#32)

/-- The hidden row with the normalised output added. -/
def hout (n : Fin 2048) : EReal := R.h n + Ideal.div (R.y n) R.post * R.gp n

end Row

/-- What the whole result depends on: the arguments, read at a token `t`, a layer `l` and a channel. -/
structure Args where
  ec : Fin 768 → Fin 2048 → BitVec 8
  es : Fin 768 → EReal
  wp : Fin 35 → Fin 2048 → Fin 256 → BitVec 8
  wps : Fin 35 → Fin 256 → EReal
  gs : Fin 256 → EReal
  pb : Fin 35 → Fin 768 → Fin 128 → BitVec 8
  ps : Fin 768 → Fin 128 → EReal
  h : Fin 35 → Fin 768 → Fin 2048 → EReal
  wg : Fin 35 → Fin 2048 → Fin 256 → BitVec 8
  wgs : Fin 35 → Fin 256 → EReal
  wo : Fin 35 → Fin 256 → Fin 2048 → BitVec 8
  wos : Fin 35 → Fin 2048 → EReal
  gp : Fin 35 → Fin 2048 → EReal

/-- What the row of layer `l` and token `t` depends on. -/
def Args.row (A : Args) (l : Fin 35) (t : Fin 768) : Row where
  ec k := int (A.ec t k)
  es := A.es t
  wp k c := int (A.wp l k c)
  wps := A.wps l
  gs := A.gs
  pb := A.pb l t
  ps := A.ps t ⟨l.val, by omega⟩
  h := A.h l t
  wg k c := int (A.wg l k c)
  wgs := A.wgs l
  wo k c := int (A.wo l k c)
  wos := A.wos l
  gp := A.gp l

end Cert.Spec
-- ==== Proof.Spec.Laws.lean ====
/- Laws of the extended reals that the two readings differ by: a code survives the int8 it is stored in, a sum or a
   greatest magnitude over lanes folded by pieces of 128 is the one over the row, and a mean is a product by a
   reciprocal. -/
module

public import proofs.«01_k».proof.Proof.Spec.Row
import Mathlib.Tactic.IntervalCases
import Mathlib.Tactic.NormNum

@[expose] public section

noncomputable section

namespace Cert.Spec

open Idealize Idealize.ShloMosaic

theorem lit_127 : lit 0x42FE0000#32 = ((127 : ℝ) : EReal) := by
  simp [lit, Ideal.ofBits, Ideal.ieee, -EReal.coe_mul]; norm_num

theorem lit_neg_127 : lit 0xC2FE0000#32 = ((-127 : ℝ) : EReal) := by
  simp [lit, Ideal.ofBits, Ideal.ieee, -EReal.coe_mul, -EReal.coe_neg]; norm_num

theorem lit_256 : lit 0x43800000#32 = ((256 : ℝ) : EReal) := by
  simp [lit, Ideal.ofBits, Ideal.ieee, -EReal.coe_mul]; norm_num

theorem lit_inv_256 : lit 0x3B800000#32 = (((256 : ℝ)⁻¹ : ℝ) : EReal) := by
  simp [lit, Ideal.ofBits, Ideal.ieee, -EReal.coe_mul]; norm_num

theorem lit_2048 : lit 0x45000000#32 = ((2048 : ℝ) : EReal) := by
  simp [lit, Ideal.ofBits, Ideal.ieee, -EReal.coe_mul]; norm_num

theorem lit_inv_2048 : lit 0x3A000000#32 = (((2048 : ℝ)⁻¹ : ℝ) : EReal) := by
  simp [lit, Ideal.ofBits, Ideal.ieee, -EReal.coe_mul]; norm_num

theorem lit_zero : lit 0x00000000#32 = 0 := by simp [lit, Ideal.ofBits, Ideal.ieee]

theorem lit_one : lit 0x3F800000#32 = 1 := by
  simp [lit, Ideal.ofBits, Ideal.ieee, -EReal.coe_mul]; norm_num

/-- A product by `1/256` is a division by 256. -/
theorem mul_inv_256 (x : EReal) : x * lit 0x3B800000#32 = Ideal.div x (lit 0x43800000#32) := by
  rw [lit_inv_256, lit_256, Ideal.div, if_neg (by norm_cast), ← EReal.coe_inv]

/-- A product by `1/2048` is a division by 2048. -/
theorem mul_inv_2048 (x : EReal) : x * lit 0x3A000000#32 = Ideal.div x (lit 0x45000000#32) := by
  rw [lit_inv_2048, lit_2048, Ideal.div, if_neg (by norm_cast), ← EReal.coe_inv]

/-- A quantised value is an integer in `[-127, 127]`. -/
theorem quant_int (v s : EReal) : ∃ n : ℤ, -127 ≤ n ∧ n ≤ 127 ∧ quant v s = ((n : ℝ) : EReal) := by
  unfold quant
  rw [lit_127, lit_neg_127]
  induction Ideal.div v s using EReal.rec with
  | bot => exact ⟨-127, by norm_num, by norm_num, by
      rw [Ideal.liftRound_bot, max_bot_right, min_eq_right (by exact_mod_cast (by norm_num : (-127 : ℝ) ≤ 127))]
      norm_num⟩
  | top => exact ⟨127, by norm_num, by norm_num, by simp⟩
  | coe r =>
    refine ⟨min 127 (max (-127) (Ideal.roundHalfEven r)), by omega, by omega, ?_⟩
    rw [Ideal.liftRound_coe]
    rw [← EReal.coe_strictMono.monotone.map_max, ← EReal.coe_strictMono.monotone.map_min]
    push_cast
    rfl

/-- A quantised value is the number its stored int8 stands for. -/
theorem int_quant (v s : EReal) : int (Ideal.fptosi 8 (quant v s)) = quant v s := by
  obtain ⟨n, h1, h2, h⟩ := quant_int v s
  rw [h, Ideal.fptosi, Ideal.toIntClamped_coe]
  have hn : (if (0 : ℝ) ≤ (n : ℝ) then ⌊(n : ℝ)⌋ else ⌈(n : ℝ)⌉) = n := by split <;> simp
  rw [hn]
  have : max (-((2 ^ (8 - 1) : ℕ) : ℤ)) (min (((2 ^ (8 - 1) : ℕ) : ℤ) - 1) n) = n := by norm_num; omega
  rw [this, int, BitVec.toInt_ofInt]
  have : n.bmod (2 ^ 8) = n := by
    rw [Int.bmod_def]; norm_num; omega
  rw [this]

/-- A sum over 128 lanes of two pieces is the sum over the row. -/
theorem sum_256 (f : Fin 256 → EReal) :
    ∑ k : Fin 128, (f ⟨k.val, by omega⟩ + f ⟨128 + k.val, by omega⟩) = ∑ c, f c := by
  rw [Finset.sum_add_distrib, show (∑ c, f c) = _ from Fin.sum_univ_add (a := 128) (b := 128) f]
  rfl

/-- A sum over 128 lanes of sixteen pieces is the sum over the row. -/
theorem sum_2048 (f : Fin 2048 → EReal) :
    ∑ k : Fin 128, (f ⟨k.val, by omega⟩ + f ⟨128 + k.val, by omega⟩ + f ⟨256 + k.val, by omega⟩
      + f ⟨384 + k.val, by omega⟩ + f ⟨512 + k.val, by omega⟩ + f ⟨640 + k.val, by omega⟩
      + f ⟨768 + k.val, by omega⟩ + f ⟨896 + k.val, by omega⟩ + f ⟨1024 + k.val, by omega⟩
      + f ⟨1152 + k.val, by omega⟩ + f ⟨1280 + k.val, by omega⟩ + f ⟨1408 + k.val, by omega⟩
      + f ⟨1536 + k.val, by omega⟩ + f ⟨1664 + k.val, by omega⟩ + f ⟨1792 + k.val, by omega⟩
      + f ⟨1920 + k.val, by omega⟩) = ∑ c, f c := by
  rw [← (finProdFinEquiv (m := 16) (n := 128)).sum_comp f, Fintype.sum_prod_type, Finset.sum_comm]
  refine Finset.sum_congr rfl fun k _ => ?_
  have e : ∀ (j : Fin 16) (n : ℕ) (hn : n < 2048), n = k.val + 128 * j.val → f ⟨n, hn⟩ = f (finProdFinEquiv (j, k)) := by
    rintro j n hn rfl; rfl
  simp only [Fin.sum_univ_succ, Finset.univ_eq_empty, Finset.sum_empty, add_zero, add_assoc]
  iterate 15 refine congrArg₂ (· + ·) (by first | exact e _ _ _ rfl | exact e _ _ _ (Nat.add_comm _ _)) ?_
  exact e _ _ _ (Nat.add_comm _ _)

/-- The greatest over 128 lanes of two pieces is the greatest over the row. -/
theorem max_256 (b : EReal) (f : Fin 256 → EReal) :
    Finset.univ.fold max b (fun k : Fin 128 => max (f ⟨k.val, by omega⟩) (f ⟨128 + k.val, by omega⟩))
      = Finset.univ.fold max b f := by
  refine eq_of_forall_ge_iff fun c => ?_
  simp only [Finset.fold_max_le, Finset.mem_univ, true_implies, max_le_iff]
  refine and_congr_right fun _ => ⟨fun h j => ?_, fun h k => ⟨h _, h _⟩⟩
  by_cases hj : j.val < 128
  · exact (h ⟨j.val, hj⟩).1
  · have := (h ⟨j.val - 128, by omega⟩).2
    have e : (⟨128 + (j.val - 128), by omega⟩ : Fin 256) = j := Fin.ext (by simp; omega)
    rwa [e] at this

/-- The greatest over 128 lanes of sixteen pieces, folded by pairs of 128 lanes, is the greatest over the row. -/
theorem max_2048 (b : EReal) (f : Fin 2048 → EReal) :
    Finset.univ.fold max b (fun k : Fin 128 =>
        max (max (max (max (max (max (max (max (f ⟨k.val, by omega⟩) (f ⟨256 + k.val, by omega⟩))
            (f ⟨512 + k.val, by omega⟩)) (f ⟨768 + k.val, by omega⟩)) (f ⟨1024 + k.val, by omega⟩))
            (f ⟨1280 + k.val, by omega⟩)) (f ⟨1536 + k.val, by omega⟩)) (f ⟨1792 + k.val, by omega⟩))
          (max (max (max (max (max (max (max (f ⟨128 + k.val, by omega⟩) (f ⟨256 + (128 + k.val), by omega⟩))
            (f ⟨512 + (128 + k.val), by omega⟩)) (f ⟨768 + (128 + k.val), by omega⟩))
            (f ⟨1024 + (128 + k.val), by omega⟩)) (f ⟨1280 + (128 + k.val), by omega⟩))
            (f ⟨1536 + (128 + k.val), by omega⟩)) (f ⟨1792 + (128 + k.val), by omega⟩)))
      = Finset.univ.fold max b f := by
  refine eq_of_forall_ge_iff fun c => ?_
  simp only [Finset.fold_max_le, Finset.mem_univ, true_implies, max_le_iff]
  refine and_congr_right fun _ => ⟨fun h j => ?_, fun h k => by simp only [h, and_self]⟩
  have h := h ⟨j.val % 128, by omega⟩
  have hq : j.val / 128 < 16 := by omega
  have e : ∀ (n : ℕ) (hn : n < 2048), n = j.val → (f ⟨n, hn⟩ ≤ c) → f j ≤ c := by
    rintro n hn rfl h; exact h
  obtain ⟨⟨⟨⟨⟨⟨⟨⟨h0, h2⟩, h4⟩, h6⟩, h8⟩, h10⟩, h12⟩, h14⟩, ⟨⟨⟨⟨⟨⟨h1, h3⟩, h5⟩, h7⟩, h9⟩, h11⟩, h13⟩, h15⟩ := h
  generalize hd : j.val / 128 = d at hq
  interval_cases d
  · exact e _ _ (by simp; omega) h0
  · exact e _ _ (by simp; omega) h1
  · exact e _ _ (by simp; omega) h2
  · exact e _ _ (by simp; omega) h3
  · exact e _ _ (by simp; omega) h4
  · exact e _ _ (by simp; omega) h5
  · exact e _ _ (by simp; omega) h6
  · exact e _ _ (by simp; omega) h7
  · exact e _ _ (by simp; omega) h8
  · exact e _ _ (by simp; omega) h9
  · exact e _ _ (by simp; omega) h10
  · exact e _ _ (by simp; omega) h11
  · exact e _ _ (by simp; omega) h12
  · exact e _ _ (by simp; omega) h13
  · exact e _ _ (by simp; omega) h14
  · exact e _ _ (by simp; omega) h15

/-- The low half of a byte by a shift left and an arithmetic shift right. -/
theorem lo_shift (b : BitVec 8) :
    IntOp.shrsi ArithUnit.vector (IntOp.shli ArithUnit.vector (b.signExtend 32) 28#32) 28#32 = lo b := by
  revert b; decide +kernel

/-- The high half of a byte by an arithmetic shift right. -/
theorem hi_shift (b : BitVec 8) : IntOp.shrsi ArithUnit.vector (b.signExtend 32) 4#32 = hi b := by
  revert b; decide +kernel

end Cert.Spec
-- ==== Proof.KVal.Block.lean ====
/- What the kernel's body computes from what it loads for 128 rows, read at an index: the row's mathematics of
   `Cert.Spec.Row`. -/
module

public import proofs.«01_k».proof.Proof.Gen.KernelIdeal.Skeleton
public import proofs.«01_k».proof.Proof.Spec.Laws
public import Idealize.ShloMosaic.Lib.Pointwise

@[expose] public section

set_option maxRecDepth 16384

noncomputable section

namespace Cert.KernelIdeal.Val

open Idealize Idealize.ShloMosaic Idealize.ShloMosaic.Pointwise
open Cert.KernelIdeal Cert.KernelIdeal.Gen Cert.Spec

/-- The lane numbers 0 to 127. -/
def lanes : IVec S1x128 32 := iota .tc S1x128 32 [1] iota_S1x128_d1_w32

/-- What the body loads for 128 rows of a layer. -/
structure Blk where
  l : Fin 35
  ec : Vec Ideal S128x2048 .i8
  es : Vec Ideal S128x1 .f32
  pb : Vec Ideal S1x128x128 .i8
  ps : Vec Ideal S128x128 .f32
  wp : Vec Ideal S2048x256 .bf16
  wps : Vec Ideal S1x256 .f32
  gs : FVec Ideal S1x256 .f32
  h : Vec Ideal S1x128x2048 .bf16
  wg : Vec Ideal S2048x256 .bf16
  wgs : Vec Ideal S1x256 .f32
  wo : Vec Ideal S256x2048 .bf16
  wos : Vec Ideal S1x2048 .f32
  gp : Vec Ideal S1x2048 .f32

namespace Blk

variable (B : Blk)

/-- The layer's number as the body has it. -/
abbrev lw : BitVec 32 := BitVec.ofNat 32 B.l.val

def p := k0_pay35 B.wps B.ec B.wp B.es
def sqA := k0_pay38 B.wps B.ec B.wp B.es
def sqB := k0_pay39 B.wps B.ec B.wp B.es
def seg := k0_pay40 B.sqA B.sqB
def comb := k0_pay41 B.lw B.gs lanes B.p B.sqA B.sqB B.pb B.ps
def cmax := k0_pay42 B.lw B.gs lanes B.p B.sqA B.sqB B.pb B.ps
def cs := k0_pay43 B.cmax
def cc := k0_pay44 B.comb B.cmax
def d := k0_pay46 B.comb B.cmax
def hb := k0_pay47 B.h
def hmax := k0_pay48 B.h
def hs := k0_pay50 B.hmax k0_pay49
def hc := k0_pay51 B.hb B.hmax k0_pay49
def gl := k0_pay53 B.wgs B.hb B.hmax k0_pay49 B.wg
def t := k0_pay55 B.wgs B.d B.hb B.hmax k0_pay49 B.wg
def ts := k0_pay57 B.t
def tc := k0_pay58 B.t
def y := k0_pay60 B.wos B.t B.wo
def yy := k0_pay62 B.wos B.t B.wo
def yyA := k0_pay63 B.wos B.t B.wo
def yyB := k0_pay64 B.wos B.t B.wo
def post := k0_pay65 B.yy B.yyA B.yyB

/-- The row at `r` of the loads. -/
def row (r : Fin 128) : Row where
  ec k := int (B.ec (ix2 r k))
  es := B.es (ix2 r 0)
  wp k c := B.wp (ix2 k c)
  wps c := B.wps (ix2 0 c)
  gs c := B.gs (ix2 0 c)
  pb k := B.pb (ix3 0 r k)
  ps := B.ps (ix2 r ⟨B.l.val, by omega⟩)
  h k := B.h (ix3 0 r k)
  wg k c := B.wg (ix2 k c)
  wgs c := B.wgs (ix2 0 c)
  wo k c := B.wo (ix2 k c)
  wos c := B.wos (ix2 0 c)
  gp c := B.gp (ix2 0 c)

theorem p_at (r : Fin 128) (c : Fin 256) : B.p (ix2 r c) = (B.row r).p c := by
  unfold p
  pointwise [k0_pay35]
  rfl

theorem sqA_at (r c : Fin 128) : B.sqA (ix2 r c) = (B.row r).p ⟨c.val, by omega⟩ * (B.row r).p ⟨c.val, by omega⟩ := by
  unfold sqA
  pointwise [k0_pay38, k0_pay37]
  rw [← p_at]; rfl

theorem sqB_at (r c : Fin 128) : B.sqB (ix2 r c) = (B.row r).p ⟨128 + c.val, by omega⟩ * (B.row r).p ⟨128 + c.val, by omega⟩ := by
  unfold sqB
  pointwise [k0_pay39, k0_pay37]
  rw [← p_at]; rfl

theorem seg_at (r : Fin 128) : B.seg (ix2 r 0) = (B.row r).seg := by
  unfold seg
  pointwise [k0_pay40]
  simp only [sqA_at, sqB_at, Row.seg, rmsOf]
  rw [sum_256 fun c => (B.row r).p c * (B.row r).p c, mul_inv_256]

theorem lanes_at (x : Fin 128) : lanes (ix2 0 x) = BitVec.ofNat 32 x.val := by
  unfold lanes
  pointwise

/-- The row's own scale picked out of the lanes by a sum. -/
theorem pick_lane (l : Fin 35) (f : Fin 128 → EReal) :
    ∑ x : Fin 128, Scalar.select (IntOp.cmpi CmpIPredicate.eq (BitVec.ofNat 32 x.val) (BitVec.ofNat 32 l.val)) (f x) (0 : EReal)
      = f ⟨l.val, by omega⟩ := by
  rw [Finset.sum_eq_single (⟨l.val, by omega⟩ : Fin 128)]
  · simp [Scalar.select, IntOp.cmpi]
  · intro x _ hx
    have : BitVec.ofNat 32 x.val ≠ BitVec.ofNat 32 l.val := by
      intro h
      apply hx
      have := congrArg BitVec.toNat h
      simp only [BitVec.toNat_ofNat] at this
      exact Fin.ext (by simp; omega)
    simp [Scalar.select, IntOp.cmpi, beq_eq_false_iff_ne.2 this]
  · simp

theorem comb_at (r : Fin 128) (c : Fin 256) : B.comb (ix2 r c) = (B.row r).comb c := by
  unfold comb
  pointwise [k0_pay41]
  simp only [lanes_at, pick_lane, lo_shift, hi_shift, p_at]
  rw [show k0_pay40 B.sqA B.sqB (ix2 r 0) = (B.row r).seg from B.seg_at r]
  unfold Row.comb Row.code
  rfl

theorem cmax_at (r : Fin 128) : B.cmax (ix1 r) = amax (B.row r).comb := by
  unfold cmax
  pointwise [k0_pay42]
  simp only [show ∀ c, k0_pay41 B.lw B.gs lanes B.p B.sqA B.sqB B.pb B.ps (ix2 r c) = (B.row r).comb c from B.comb_at r]
  exact max_256 _ fun c => max ((B.row r).comb c) (-(B.row r).comb c)

theorem cs_at (r : Fin 128) : B.cs (ix2 r 0) = (B.row r).cs := by
  unfold cs
  pointwise [k0_pay43]
  rw [cmax_at]; rfl

theorem cc_at (r : Fin 128) (c : Fin 256) : B.cc (ix2 r c) = (B.row r).cc c := by
  unfold cc
  pointwise [k0_pay44]
  rw [show k0_pay43 B.cmax (ix2 r 0) = (B.row r).cs from B.cs_at r, comb_at]; rfl

theorem d_at (r : Fin 128) (c : Fin 256) : B.d (ix2 r c) = (B.row r).cc c * (B.row r).cs := by
  unfold d
  pointwise [k0_pay46]
  rw [show k0_pay43 B.cmax (ix2 r 0) = (B.row r).cs from B.cs_at r, show k0_pay44 B.comb B.cmax (ix2 r c) = (B.row r).cc c from B.cc_at r c]

theorem hb_at (r : Fin 128) (c : Fin 2048) : B.hb (ix2 r c) = (B.row r).h c := by
  unfold hb
  pointwise [k0_pay47]
  rfl

theorem hmax_at (r : Fin 128) : B.hmax (ix2 r 0) = amax (B.row r).h := by
  unfold hmax
  pointwise [k0_pay48]
  simp only [show ∀ c, k0_pay47 B.h (ix2 r c) = (B.row r).h c from B.hb_at r]
  exact max_2048 _ fun c => max ((B.row r).h c) (-(B.row r).h c)

theorem hs_at (r : Fin 128) : B.hs (ix2 r 0) = (B.row r).hs := by
  unfold hs
  pointwise [k0_pay50, k0_pay49]
  rw [hmax_at]; rfl

theorem hc_at (r : Fin 128) (c : Fin 2048) : B.hc (ix2 r c) = Ideal.fptosi 8 ((B.row r).hc c) := by
  unfold hc
  pointwise [k0_pay51]
  rw [show k0_pay50 B.hmax k0_pay49 (ix2 r 0) = (B.row r).hs from B.hs_at r, hb_at]; rfl

theorem gl_at (r : Fin 128) (c : Fin 256) : B.gl (ix2 r c) = (B.row r).gl c := by
  unfold gl
  pointwise [k0_pay53]
  rw [show k0_pay50 B.hmax k0_pay49 (ix2 r 0) = (B.row r).hs from B.hs_at r]
  simp only [show ∀ c, k0_pay51 B.hb B.hmax k0_pay49 (ix2 r c) = Ideal.fptosi 8 ((B.row r).hc c) from B.hc_at r]
  simp only [show ∀ k, FloatOps.sitofp (F := Ideal) FTy.bf16 (Ideal.fptosi 8 ((B.row r).hc k)) = (B.row r).hc k from
    fun k => int_quant _ _]
  rfl

theorem t_at (r : Fin 128) (c : Fin 256) : B.t (ix2 r c) = (B.row r).t c := by
  unfold t
  pointwise [k0_pay55]
  rw [show k0_pay53 B.wgs B.hb B.hmax k0_pay49 B.wg (ix2 r c) = (B.row r).gl c from B.gl_at r c, d_at]
  unfold Row.t gelu
  simp only [lit_one]

theorem ts_at (r : Fin 128) : B.ts (ix2 r 0) = (B.row r).ts := by
  unfold ts
  pointwise [k0_pay57]
  simp only [t_at]
  unfold Row.ts scaleOf amax
  rw [← max_256 _ fun c => max ((B.row r).t c) (-(B.row r).t c)]
  rfl

theorem tc_at (r : Fin 128) (c : Fin 256) : B.tc (ix2 r c) = (B.row r).tc c := by
  unfold tc
  pointwise [k0_pay58]
  rw [show k0_pay57 B.t (ix2 r 0) = (B.row r).ts from B.ts_at r, t_at]; rfl

theorem y_at (r : Fin 128) (c : Fin 2048) : B.y (ix2 r c) = (B.row r).y c := by
  unfold y
  pointwise [k0_pay60]
  rw [show k0_pay57 B.t (ix2 r 0) = (B.row r).ts from B.ts_at r]
  simp only [show ∀ c, k0_pay58 B.t (ix2 r c) = (B.row r).tc c from B.tc_at r]
  rfl

theorem yy_at (r : Fin 128) (c : Fin 2048) : B.yy (ix2 r c) = (B.row r).y c * (B.row r).y c := by
  unfold yy
  pointwise [k0_pay62]
  rw [show k0_pay60 B.wos B.t B.wo (ix2 r c) = (B.row r).y c from B.y_at r c]

theorem yyA_at (r : Fin 128) (c : Fin 128) : B.yyA (ix2 r c) = (B.row r).y ⟨c.val, by omega⟩ * (B.row r).y ⟨c.val, by omega⟩ := by
  unfold yyA
  pointwise [k0_pay63]
  exact B.yy_at r _

theorem yyB_at (r : Fin 128) (c : Fin 128) : B.yyB (ix2 r c) = (B.row r).y ⟨128 + c.val, by omega⟩ * (B.row r).y ⟨128 + c.val, by omega⟩ := by
  unfold yyB
  pointwise [k0_pay64]
  exact B.yy_at r _

theorem post_at (r : Fin 128) : B.post (ix2 r 0) = (B.row r).post := by
  unfold post
  pointwise [k0_pay65]
  simp only [yyA_at, yyB_at, yy_at, Row.post, rmsOf]
  rw [sum_2048 fun c => (B.row r).y c * (B.row r).y c, mul_inv_2048]

end Blk

end Cert.KernelIdeal.Val
-- ==== Proof.KVal.Stores.lean ====
/- The values that the body stores for 128 rows, and that its second and third rounds compute the same as its first. -/
module

public import proofs.«01_k».proof.Proof.KVal.Block

@[expose] public section

set_option maxRecDepth 16384

noncomputable section

namespace Cert.KernelIdeal.Val

open Idealize Idealize.ShloMosaic
open Cert.KernelIdeal Cert.KernelIdeal.Gen Cert.Spec

/-- The constants that the body's rounds share. -/
abbrev c111 : Ideal .f32 := FloatOps.ofBits FTy.f32 3271426048#32
abbrev c112 : Ideal .f32 := FloatOps.ofBits FTy.f32 1123942400#32
abbrev c143 : Ideal .f32 := FloatOps.ofBits FTy.f32 0#32
abbrev c210 : FVec Ideal S128x256 .f32 := constant S128x256 FTy.f32 0#32

namespace Blk

variable (B : Blk)

def pP := k0_pay36 B.wps B.ec B.wp B.es
def ccP := k0_pay45 B.comb B.cmax
def hcP := k0_pay52 B.hb B.hmax k0_pay49
def glP := k0_pay54 B.wgs B.hb B.hmax k0_pay49 B.wg
def tP := k0_pay56 B.t
def tcP := k0_pay59 B.t
def yP := k0_pay61 B.wos B.t B.wo
def houtP := k0_pay66 B.gp B.hb B.y B.yy B.yyA B.yyB
def segR := k0_pay67 B.seg
def postR := k0_pay69 (k0_pay68 B.yy B.yyA B.yyB)
def csR := k0_pay70 B.cs
def hsR := k0_pay71 B.hs
def tsR := k0_pay72 B.ts
def pn := k0_pay76 B.wps B.gs B.ec B.wp B.es
def u79 := k0_pay79 B.lw lanes B.pn B.pb B.ps
def u85 := k0_pay85 B.h
def u92 := k0_pay92 B.wgs B.d B.hs c112 B.u85 B.wg
def u98 := k0_pay98 B.wos B.t B.u92 c143 B.wo
def u99 := k0_pay99 B.wos B.t B.u92 c143 B.wo
def u112 := k0_pay112 B.pb
def u113 := k0_pay113 B.pb
def u123 := k0_pay123 B.h
def u129 := k0_pay129 B.wgs B.d B.hs B.u123 B.wg c210
def u134 := k0_pay134 B.wos B.ts c112 B.u129 B.wo

theorem q75 : k0_pay75 B.wps B.ec B.wp B.es = B.seg := rfl
theorem q74 : k0_pay74 B.wps B.ec B.wp B.es = B.pP := rfl
theorem q78 : k0_pay78 B.lw lanes B.pn B.pb B.ps = B.cs := rfl
theorem q81 : k0_pay81 B.u79 c111 c112 = B.ccP := rfl
theorem q82 : k0_pay82 B.cs B.u79 c111 c112 = B.d := rfl
theorem q83 : k0_pay83 B.h = B.hb := rfl
theorem q84 : k0_pay84 B.h = B.hs := rfl
theorem q87 : k0_pay87 c112 B.u85 = B.hcP := rfl
theorem q89 : k0_pay89 B.wgs B.hs c112 B.u85 B.wg = B.glP := rfl
theorem q90 : k0_pay90 B.wgs B.d B.hs c112 B.u85 B.wg = B.t := rfl
theorem q91 : k0_pay91 B.wgs B.d B.hs c112 B.u85 B.wg = B.tP := rfl
theorem q93 : k0_pay93 B.u92 c143 = B.ts := rfl
theorem q95 : k0_pay95 B.t B.u92 c143 = B.tcP := rfl
theorem q96 : k0_pay96 B.wos B.t B.u92 c143 B.wo = B.y := rfl
theorem q97 : k0_pay97 B.wos B.t B.u92 c143 B.wo = B.yP := rfl
theorem q101 : k0_pay101 B.gp B.hb B.y B.u98 B.u99 = B.houtP := rfl
theorem q102 : k0_pay102 B.seg = B.segR := rfl
theorem q103 : k0_pay103 B.u98 B.u99 = B.postR := rfl
theorem q104 : k0_pay104 B.cs = B.csR := rfl
theorem q105 : k0_pay105 B.hs = B.hsR := rfl
theorem q106 : k0_pay106 B.ts = B.tsR := rfl
theorem q108 : k0_pay108 B.wps B.ec B.wp B.es = B.pP := rfl
theorem q109 : k0_pay109 B.wps B.ec B.wp B.es = B.seg := rfl
theorem q110 : k0_pay110 B.wps B.gs B.ec B.wp B.es = B.pn := rfl
theorem q115 : k0_pay115 B.lw lanes B.pn B.u112 B.u113 B.ps = B.cs := rfl
theorem q117 : k0_pay117 B.lw lanes B.pn B.u112 B.u113 B.ps = B.ccP := rfl
theorem q118 : k0_pay118 B.lw lanes B.pn B.u112 B.u113 B.ps = B.d := rfl
theorem q119 : k0_pay119 B.h = B.hb := rfl
theorem q120 : k0_pay120 B.h = B.hs := rfl
theorem q122 : k0_pay122 B.h = B.hcP := rfl
theorem q125 : k0_pay125 B.wgs B.hs B.u123 B.wg c210 = B.glP := rfl
theorem q127 : k0_pay127 B.wgs B.d B.hs B.u123 B.wg c210 = B.tP := rfl
theorem q128 : k0_pay128 B.wgs B.d B.hs B.u123 B.wg c210 = B.ts := rfl
theorem q131 : k0_pay131 c112 B.u129 = B.tcP := rfl
theorem q132 : k0_pay132 B.wos B.ts c112 B.u129 B.wo = B.y := rfl
theorem q133 : k0_pay133 B.wos B.ts c112 B.u129 B.wo = B.yP := rfl
theorem q136 : k0_pay136 B.gp B.hb B.y B.u134 = B.houtP := rfl
theorem q137 : k0_pay137 B.seg = B.segR := rfl
theorem q138 : k0_pay138 B.u134 = B.postR := rfl
theorem q139 : k0_pay139 B.cs = B.csR := rfl
theorem q140 : k0_pay140 B.hs = B.hsR := rfl
theorem q141 : k0_pay141 B.ts = B.tsR := rfl

end Blk

end Cert.KernelIdeal.Val
-- ==== Proof.KVal.BlkX.lean ====
/- What the kernel's body loads for each of its three rounds of 128 rows, from the contents of the staging buffers. -/
module

public import proofs.«01_k».proof.Proof.KVal.Stores

@[expose] public section

set_option maxRecDepth 16384

noncomputable section

namespace Cert.KernelIdeal.Val

open Idealize Idealize.ShloMosaic
open Cert.KernelIdeal Cert.KernelIdeal.Gen Cert.Spec

/-- What round `k` of the body loads at the grid point `i`, from the buffers' contents and the widened weights. -/
def blkX (i : grid0.Coords) (x0 : Vec Ideal S768x2048 .i8) (x1 : Vec Ideal S768x128 .f32) (x2 : Vec Ideal S1x384x128 .i8)
    (x3 : Vec Ideal S768x128 .f32) (x5 : Vec Ideal S35x256 .f32) (x6 : Vec Ideal S1x256 .f32)
    (x7 : Vec Ideal S1x384x2048 .bf16) (x9 : Vec Ideal S35x256 .f32) (x11 x12 : Vec Ideal S35x2048 .f32)
    (wp wg : Vec Ideal S2048x256 .bf16) (wo : Vec Ideal S256x2048 .bf16) (k : Fin 3) : Blk where
  l := i 0
  ec := View.ld x0 (Rect.unit (s := S768x2048) (k0_off3 i (BitVec.ofNat 32 (128 * k.val))) S128x2048.size (k0_off3_inb i k))
  es := View.ld x1 (Rect.unit (s := S768x128) (k0_off4 i (BitVec.ofNat 32 (128 * k.val))) S128x1.size (k0_off4_inb i k))
  pb := View.ld x2 (Rect.unit (s := S1x384x128) ![0, 128 * k.val, 0] S1x128x128.size
    (by have := k.isLt; intro a; fin_cases a <;> simp [S1x384x128, S1x128x128] <;> omega))
  ps := View.ld x3 (Rect.unit (s := S768x128) (k0_off5 i (BitVec.ofNat 32 (128 * k.val))) S128x128.size (k0_off5_inb i k))
  wp := wp
  wps := View.ld x5 (Rect.unit (s := S35x256) (k0_off1 i) S1x256.size (k0_off1_inb i))
  gs := k0_pay34 (View.ld x6 (Rect.unit (s := S1x256) ![0, 0] S1x256.size inb_S1x256_S1x256_0_0))
  h := View.ld x7 (Rect.unit (s := S1x384x2048) ![0, 128 * k.val, 0] S1x128x2048.size
    (by have := k.isLt; intro a; fin_cases a <;> simp [S1x384x2048, S1x128x2048] <;> omega))
  wg := wg
  wgs := View.ld x9 (Rect.unit (s := S35x256) (k0_off1 i) S1x256.size (k0_off1_inb i))
  wo := wo
  wos := View.ld x11 (Rect.unit (s := S35x2048) (k0_off2 i) S1x2048.size (k0_off2_inb i))
  gp := View.ld x12 (Rect.unit (s := S35x2048) (k0_off2 i) S1x2048.size (k0_off2_inb i))

end Cert.KernelIdeal.Val
-- ==== Proof.KVal.Tiles.lean ====
/- What three stores of 128 rows each leave in a buffer of 384 rows, read at an index. -/
module

public import Idealize.ShloMosaic.Lib.Pipeline.ValueKit
public import Idealize.ShloMosaic.Lib.Pointwise

@[expose] public section

set_option maxRecDepth 16384

noncomputable section

namespace Cert.KernelIdeal.Val

open Idealize Idealize.ShloMosaic Idealize.ShloMosaic.Pointwise

variable {Val : EltTy → Type} [∀ e, Nonempty (Val e)] {sig : RefSig} {κ : Kind} {sp : Space} {e : EltTy}

/-- The row `128 * k + r` of 384. -/
def row3 (k : Fin 3) (r : Fin 128) : Fin 384 := ⟨128 * k.val + r.val, by omega⟩

/-- Three blocks of rows stored one under the other hold at each row what the block that has the row holds. -/
theorem stack3 {n : Nat} (v : View sig κ sp ⟨3, ![1, 384, n]⟩ e) (f : v.ty.Contents Val)
    (w : Fin 3 → (⟨3, ![1, 128, n]⟩ : Shape).Idx → Val e) (G : Fin 384 → Fin n → Val e)
    (i2 : ∀ a, (![0, 256, 0] : Fin 3 → Nat) a + (![1, 128, n] : Fin 3 → Nat) a ≤ (⟨3, ![1, 384, n]⟩ : Shape).size a)
    (i1 : ∀ a, (![0, 128, 0] : Fin 3 → Nat) a + (![1, 128, n] : Fin 3 → Nat) a ≤ (⟨3, ![1, 384, n]⟩ : Shape).size a)
    (i0 : ∀ a, (![0, 0, 0] : Fin 3 → Nat) a + (![1, 128, n] : Fin 3 → Nat) a ≤ (⟨3, ![1, 384, n]⟩ : Shape).size a)
    (h : ∀ k r c, w k (ix3 0 r c) = G (row3 k r) c) (y : (⟨3, ![1, 384, n]⟩ : Shape).Idx) :
    v.read Val (v.writes Val f [⟨Rect.unit ![0, 256, 0] ![1, 128, n] i2, w 2⟩, ⟨Rect.unit ![0, 128, 0] ![1, 128, n] i1, w 1⟩,
      ⟨Rect.unit ![0, 0, 0] ![1, 128, n] i0, w 0⟩]) y = G (y 1) (y 2) := by
  have key : ∀ (k : Fin 3) (x : (⟨3, ![1, 128, n]⟩ : Shape).Idx), (y 1).val = 128 * k.val + (x 1).val → (y 2).val = (x 2).val →
      w k x = G (y 1) (y 2) := by
    intro k x h1 h2
    have hx : x = ix3 0 (x 1) (x 2) := by
      rw [eq_ix3 x]; exact congrArg (fun z => ix3 z (x 1) (x 2)) (Fin.ext (by have : (x 0).val < 1 := (x 0).isLt; show (x 0).val = 0; omega))
    exact (congrArg (w k) hx).trans ((h k (x 1) (x 2)).trans (congr (congrArg G (Fin.ext h1.symm)) (Fin.ext h2.symm)))
  have hy0 : (y 0).val < 1 := (y 0).isLt
  have hy1 : (y 1).val < 384 := (y 1).isLt
  have hy2 : (y 2).val < n := (y 2).isLt
  have hc : ∀ (o : Nat) (inb), o ≤ (y 1).val → (y 1).val < o + 128 → y ∈ (Rect.unit (s := ⟨3, ![1, 384, n]⟩) ![0, o, 0] ![1, 128, n] inb).set := by
    intro o inb ha hb
    rw [Rect.mem_set_unit]
    intro a
    match a with
    | ⟨0, _⟩ => exact ⟨Nat.zero_le _, hy0⟩
    | ⟨1, _⟩ => exact ⟨ha, hb⟩
    | ⟨2, _⟩ => exact ⟨Nat.zero_le _, by show (y 2).val < 0 + n; omega⟩
  rw [View.read_writes_apply_eq_canon]
  · refine View.canon_eq_of_allAt _ _ _ ?_ (View.allAt_cons_unit _ _ _ _ _ (fun x hx => ?_) (View.allAt_cons_unit _ _ _ _ _ (fun x hx => ?_)
      (View.allAt_cons_unit _ _ _ _ _ (fun x hx => ?_) (View.allAt_nil _ _))))
    · by_cases h2 : 256 ≤ (y 1).val
      · exact ⟨_, List.mem_cons_self, hc 256 i2 h2 (by omega)⟩
      by_cases h1 : 128 ≤ (y 1).val
      · exact ⟨_, List.mem_cons_of_mem _ List.mem_cons_self, hc 128 i1 h1 (by omega)⟩
      · exact ⟨_, List.mem_cons_of_mem _ (List.mem_cons_of_mem _ List.mem_cons_self), hc 0 i0 (by omega) (by omega)⟩
    · exact key 2 x (hx 1) ((hx 2).trans (Nat.zero_add _))
    · exact key 1 x (hx 1) ((hx 2).trans (Nat.zero_add _))
    · exact key 0 x (hx 1) ((hx 2).trans (Nat.zero_add _))
  · by_cases h2 : 256 ≤ (y 1).val
    · exact ⟨_, List.mem_cons_self, hc 256 i2 h2 (by omega)⟩
    by_cases h1 : 128 ≤ (y 1).val
    · exact ⟨_, List.mem_cons_of_mem _ List.mem_cons_self, hc 128 i1 h1 (by omega)⟩
    · exact ⟨_, List.mem_cons_of_mem _ (List.mem_cons_of_mem _ List.mem_cons_self), hc 0 i0 (by omega) (by omega)⟩

/-- The same for blocks with two unit axes before the rows. -/
theorem stack4 {n : Nat} (v : View sig κ sp ⟨4, ![1, 1, 384, n]⟩ e) (f : v.ty.Contents Val)
    (w : Fin 3 → (⟨4, ![1, 1, 128, n]⟩ : Shape).Idx → Val e) (G : Fin 384 → Fin n → Val e)
    (i2 : ∀ a, (![0, 0, 256, 0] : Fin 4 → Nat) a + (![1, 1, 128, n] : Fin 4 → Nat) a ≤ (⟨4, ![1, 1, 384, n]⟩ : Shape).size a)
    (i1 : ∀ a, (![0, 0, 128, 0] : Fin 4 → Nat) a + (![1, 1, 128, n] : Fin 4 → Nat) a ≤ (⟨4, ![1, 1, 384, n]⟩ : Shape).size a)
    (i0 : ∀ a, (![0, 0, 0, 0] : Fin 4 → Nat) a + (![1, 1, 128, n] : Fin 4 → Nat) a ≤ (⟨4, ![1, 1, 384, n]⟩ : Shape).size a)
    (h : ∀ k r c, w k (ix4 0 0 r c) = G (row3 k r) c) (y : (⟨4, ![1, 1, 384, n]⟩ : Shape).Idx) :
    v.read Val (v.writes Val f [⟨Rect.unit ![0, 0, 256, 0] ![1, 1, 128, n] i2, w 2⟩, ⟨Rect.unit ![0, 0, 128, 0] ![1, 1, 128, n] i1, w 1⟩,
      ⟨Rect.unit ![0, 0, 0, 0] ![1, 1, 128, n] i0, w 0⟩]) y = G (y 2) (y 3) := by
  have key : ∀ (k : Fin 3) (x : (⟨4, ![1, 1, 128, n]⟩ : Shape).Idx), (y 2).val = 128 * k.val + (x 2).val → (y 3).val = (x 3).val →
      w k x = G (y 2) (y 3) := by
    intro k x h1 h2
    have hx : x = ix4 0 0 (x 2) (x 3) := by
      have h0 : (x 0).val < 1 := (x 0).isLt
      have h1 : (x 1).val < 1 := (x 1).isLt
      funext a
      match a with
      | ⟨0, _⟩ => exact Fin.ext (by show (x 0).val = 0; omega)
      | ⟨1, _⟩ => exact Fin.ext (by show (x 1).val = 0; omega)
      | ⟨2, _⟩ => rfl
      | ⟨3, _⟩ => rfl
    exact (congrArg (w k) hx).trans ((h k (x 2) (x 3)).trans (congr (congrArg G (Fin.ext h1.symm)) (Fin.ext h2.symm)))
  have hy0 : (y 0).val < 1 := (y 0).isLt
  have hy1 : (y 1).val < 1 := (y 1).isLt
  have hy2 : (y 2).val < 384 := (y 2).isLt
  have hy3 : (y 3).val < n := (y 3).isLt
  have hc : ∀ (o : Nat) (inb), o ≤ (y 2).val → (y 2).val < o + 128 → y ∈ (Rect.unit (s := ⟨4, ![1, 1, 384, n]⟩) ![0, 0, o, 0] ![1, 1, 128, n] inb).set := by
    intro o inb ha hb
    rw [Rect.mem_set_unit]
    intro a
    match a with
    | ⟨0, _⟩ => exact ⟨Nat.zero_le _, hy0⟩
    | ⟨1, _⟩ => exact ⟨Nat.zero_le _, hy1⟩
    | ⟨2, _⟩ => exact ⟨ha, hb⟩
    | ⟨3, _⟩ => exact ⟨Nat.zero_le _, by show (y 3).val < 0 + n; omega⟩
  rw [View.read_writes_apply_eq_canon]
  · refine View.canon_eq_of_allAt _ _ _ ?_ (View.allAt_cons_unit _ _ _ _ _ (fun x hx => ?_) (View.allAt_cons_unit _ _ _ _ _ (fun x hx => ?_)
      (View.allAt_cons_unit _ _ _ _ _ (fun x hx => ?_) (View.allAt_nil _ _))))
    · by_cases h2 : 256 ≤ (y 2).val
      · exact ⟨_, List.mem_cons_self, hc 256 i2 h2 (by omega)⟩
      by_cases h1 : 128 ≤ (y 2).val
      · exact ⟨_, List.mem_cons_of_mem _ List.mem_cons_self, hc 128 i1 h1 (by omega)⟩
      · exact ⟨_, List.mem_cons_of_mem _ (List.mem_cons_of_mem _ List.mem_cons_self), hc 0 i0 (by omega) (by omega)⟩
    · exact key 2 x (hx 2) ((hx 3).trans (Nat.zero_add _))
    · exact key 1 x (hx 2) ((hx 3).trans (Nat.zero_add _))
    · exact key 0 x (hx 2) ((hx 3).trans (Nat.zero_add _))
  · by_cases h2 : 256 ≤ (y 2).val
    · exact ⟨_, List.mem_cons_self, hc 256 i2 h2 (by omega)⟩
    by_cases h1 : 128 ≤ (y 2).val
    · exact ⟨_, List.mem_cons_of_mem _ List.mem_cons_self, hc 128 i1 h1 (by omega)⟩
    · exact ⟨_, List.mem_cons_of_mem _ (List.mem_cons_of_mem _ List.mem_cons_self), hc 0 i0 (by omega) (by omega)⟩

/-- Three stores of 128 lanes into row `b` of a two-row statistics block: the row holds them, and another row what it held. -/
theorem lanes3 (b : Nat) (v : View sig κ sp ⟨3, ![1, 2, 384]⟩ e) (f : v.ty.Contents Val)
    (w : Fin 3 → (⟨3, ![1, 1, 128]⟩ : Shape).Idx → Val e) (G : Fin 384 → Val e)
    (i2 : ∀ a, (![0, b, 256] : Fin 3 → Nat) a + (![1, 1, 128] : Fin 3 → Nat) a ≤ (⟨3, ![1, 2, 384]⟩ : Shape).size a)
    (i1 : ∀ a, (![0, b, 128] : Fin 3 → Nat) a + (![1, 1, 128] : Fin 3 → Nat) a ≤ (⟨3, ![1, 2, 384]⟩ : Shape).size a)
    (i0 : ∀ a, (![0, b, 0] : Fin 3 → Nat) a + (![1, 1, 128] : Fin 3 → Nat) a ≤ (⟨3, ![1, 2, 384]⟩ : Shape).size a)
    (h : ∀ k r, w k (ix3 0 0 r) = G (row3 k r)) (y : (⟨3, ![1, 2, 384]⟩ : Shape).Idx) :
    v.read Val (v.writes Val f [⟨Rect.unit ![0, b, 256] ![1, 1, 128] i2, w 2⟩, ⟨Rect.unit ![0, b, 128] ![1, 1, 128] i1, w 1⟩,
      ⟨Rect.unit ![0, b, 0] ![1, 1, 128] i0, w 0⟩]) y = if (y 1).val = b then G (y 2) else v.read Val f y := by
  by_cases hb : (y 1).val = b
  · rw [if_pos hb]
    have key : ∀ (k : Fin 3) (x : (⟨3, ![1, 1, 128]⟩ : Shape).Idx), (y 2).val = 128 * k.val + (x 2).val → w k x = G (y 2) := by
      intro k x h1
      have hx : x = ix3 0 0 (x 2) := by
        have h0 : (x 0).val < 1 := (x 0).isLt
        have h1 : (x 1).val < 1 := (x 1).isLt
        funext a
        match a with
        | ⟨0, _⟩ => exact Fin.ext (by show (x 0).val = 0; omega)
        | ⟨1, _⟩ => exact Fin.ext (by show (x 1).val = 0; omega)
        | ⟨2, _⟩ => rfl
      exact (congrArg (w k) hx).trans ((h k (x 2)).trans (congrArg G (Fin.ext h1.symm)))
    have hy0 : (y 0).val < 1 := (y 0).isLt
    have hy2 : (y 2).val < 384 := (y 2).isLt
    have hc : ∀ (o : Nat) (inb), o ≤ (y 2).val → (y 2).val < o + 128 → y ∈ (Rect.unit (s := ⟨3, ![1, 2, 384]⟩) ![0, b, o] ![1, 1, 128] inb).set := by
      intro o inb ha hb'
      rw [Rect.mem_set_unit]
      intro a
      match a with
      | ⟨0, _⟩ => exact ⟨Nat.zero_le _, hy0⟩
      | ⟨1, _⟩ => exact ⟨by show b ≤ (y 1).val; omega, by show (y 1).val < b + 1; omega⟩
      | ⟨2, _⟩ => exact ⟨ha, hb'⟩
    rw [View.read_writes_apply_eq_canon]
    · refine View.canon_eq_of_allAt _ _ _ ?_ (View.allAt_cons_unit _ _ _ _ _ (fun x hx => ?_) (View.allAt_cons_unit _ _ _ _ _ (fun x hx => ?_)
        (View.allAt_cons_unit _ _ _ _ _ (fun x hx => ?_) (View.allAt_nil _ _))))
      · by_cases h2 : 256 ≤ (y 2).val
        · exact ⟨_, List.mem_cons_self, hc 256 i2 h2 (by omega)⟩
        by_cases h1 : 128 ≤ (y 2).val
        · exact ⟨_, List.mem_cons_of_mem _ List.mem_cons_self, hc 128 i1 h1 (by omega)⟩
        · exact ⟨_, List.mem_cons_of_mem _ (List.mem_cons_of_mem _ List.mem_cons_self), hc 0 i0 (by omega) (by omega)⟩
      · exact key 2 x (hx 2)
      · exact key 1 x (hx 2)
      · exact key 0 x (hx 2)
    · by_cases h2 : 256 ≤ (y 2).val
      · exact ⟨_, List.mem_cons_self, hc 256 i2 h2 (by omega)⟩
      by_cases h1 : 128 ≤ (y 2).val
      · exact ⟨_, List.mem_cons_of_mem _ List.mem_cons_self, hc 128 i1 h1 (by omega)⟩
      · exact ⟨_, List.mem_cons_of_mem _ (List.mem_cons_of_mem _ List.mem_cons_self), hc 0 i0 (by omega) (by omega)⟩
  · rw [if_neg hb]
    have hn : ∀ (o : Nat) (inb), y ∉ (Rect.unit (s := ⟨3, ![1, 2, 384]⟩) ![0, b, o] ![1, 1, 128] inb).set := by
      intro o inb hm
      rw [Rect.mem_set_unit] at hm
      have h1 : b ≤ (y 1).val ∧ (y 1).val < b + 1 := hm 1
      omega
    refine View.read_writes_apply_of_forall_not_mem _ _ _ _ ?_
    intro p hp
    simp only [List.mem_cons, List.not_mem_nil, or_false] at hp
    rcases hp with rfl | rfl | rfl
    · exact hn _ i2
    · exact hn _ i1
    · exact hn _ i0

end Cert.KernelIdeal.Val
-- ==== Proof.KVal.Spec.lean ====
/- Which row of the reference's mathematics each round of the body computes: the blocks the body loads, read from the
   arguments. -/
module

public import proofs.«01_k».proof.Proof.KVal.BlkX
public import proofs.«01_k».proof.Proof.KVal.Tiles
public import proofs.«01_k».proof.Proof.Gen.KernelIdeal.Frame
public import Idealize.ShloMosaic.Lib.Pipeline.ValueKit

@[expose] public section

set_option maxRecDepth 16384

noncomputable section

namespace Cert.KernelIdeal.Val

open Idealize Idealize.ShloMosaic Idealize.ShloMosaic.Pointwise Idealize.ShloMosaic.TcCoe
open Cert.KernelIdeal Cert.KernelIdeal.Gen Cert.Spec

/-- Which block each input window takes at a grid point. -/
theorem idx : ∀ t : Fin cfg0.N, win0_0.index t = ![0, 0] ∧ win0_1.index t = ![0, 0] ∧ win0_2.index t = ![t.val / 2, t.val % 2, 0] ∧ win0_3.index t = ![0, 0] ∧ win0_4.index t = ![t.val / 2, 0, 0] ∧ win0_5.index t = ![0, 0] ∧ win0_6.index t = ![0, 0] ∧ win0_7.index t = ![t.val / 2, t.val % 2, 0] ∧ win0_8.index t = ![t.val / 2, 0, 0] ∧ win0_9.index t = ![0, 0] ∧ win0_10.index t = ![t.val / 2, 0, 0] ∧ win0_11.index t = ![0, 0] ∧ win0_12.index t = ![0, 0] :=
  (by decide +kernel : ∀ t : Fin grid0.N, _)

/-- Which block each output window takes at a grid point. -/
theorem idxO : ∀ t : Fin cfg0.N, win0_13.index t = ![t.val / 2, t.val % 2, 0] ∧ win0_14.index t = ![t.val / 2, 0, 0] ∧ win0_15.index t = ![t.val / 2, 0, 0] ∧ win0_16.index t = ![t.val % 2, t.val / 2, 0, 0] ∧ win0_17.index t = ![t.val / 2, 0, 0] ∧ win0_18.index t = ![t.val / 2, t.val % 2, 0] ∧ win0_19.index t = ![t.val / 2, 0, 0] ∧ win0_20.index t = ![t.val / 2, t.val % 2, 0] ∧ win0_21.index t = ![t.val / 2, 0, 0] ∧ win0_22.index t = ![t.val % 2, t.val / 2, 0, 0] ∧ win0_23.index t = ![t.val / 2, t.val % 2, 0] ∧ win0_24.index t = ![t.val / 2, t.val % 2, 0] ∧ win0_25.index t = ![t.val / 2, t.val % 2, 0] :=
  (by decide +kernel : ∀ t : Fin grid0.N, _)

theorem coords_0 : ∀ t : Fin cfg0.N, (grid0.coords t 0).val = t.val / 2 := (by decide +kernel : ∀ t : Fin grid0.N, _)
theorem coords_1 : ∀ t : Fin cfg0.N, (grid0.coords t 1).val = t.val % 2 := (by decide +kernel : ∀ t : Fin grid0.N, _)

theorem off1_eq : ∀ t : Fin cfg0.N, k0_off1 (grid0.coords t) = ![t.val / 2, 0] := (by decide +kernel : ∀ t : Fin grid0.N, _)
theorem off2_eq : ∀ t : Fin cfg0.N, k0_off2 (grid0.coords t) = ![t.val / 2, 0] := (by decide +kernel : ∀ t : Fin grid0.N, _)
theorem off3_eq : ∀ (t : Fin cfg0.N) (k : Fin 3), k0_off3 (grid0.coords t) (BitVec.ofNat 32 (128 * k.val)) = ![t.val % 2 * 384 + 128 * k.val, 0] :=
  (by decide +kernel : ∀ (t : Fin grid0.N) (k : Fin 3), _)
theorem off4_eq : ∀ (t : Fin cfg0.N) (k : Fin 3), k0_off4 (grid0.coords t) (BitVec.ofNat 32 (128 * k.val)) = ![t.val % 2 * 384 + 128 * k.val, 0] :=
  (by decide +kernel : ∀ (t : Fin grid0.N) (k : Fin 3), _)
theorem off5_eq : ∀ (t : Fin cfg0.N) (k : Fin 3), k0_off5 (grid0.coords t) (BitVec.ofNat 32 (128 * k.val)) = ![t.val % 2 * 384 + 128 * k.val, 0] :=
  (by decide +kernel : ∀ (t : Fin grid0.N) (k : Fin 3), _)

variable (m : (ℓ : Loc nD τ sig) → Buf (Elt Ideal) ℓ) (c : Dev nD)

/-- The arguments of the call, as the region finds them. -/
def kargs : Args where
  ec r k := (V m c main_arg0 : Vec Ideal S768x2048 .i8) (ix2 r k)
  es r := (V m c main_arg1 : Vec Ideal S768x128 .f32) (ix2 r 0)
  pb l r k := (V m c main_arg2 : Vec Ideal S35x768x128 .i8) (ix3 l r k)
  ps r k := (V m c main_arg3 : Vec Ideal S768x128 .f32) (ix2 r k)
  wp l k j := (V m c main_v0 : Vec Ideal S35x2048x256 .i8) (ix3 l k j)
  wps l j := (V m c main_arg5 : Vec Ideal S35x256 .f32) (ix2 l j)
  gs j := (V m c main_v1 : Vec Ideal S1x256 .f32) (ix2 0 j)
  h l r k := (V m c main_v2 : Vec Ideal S35x768x2048 .bf16) (ix3 l r k)
  wg l k j := (V m c main_arg8 : Vec Ideal S35x2048x256 .i8) (ix3 l k j)
  wgs l j := (V m c main_arg9 : Vec Ideal S35x256 .f32) (ix2 l j)
  wo l k j := (V m c main_arg10 : Vec Ideal S35x256x2048 .i8) (ix3 l k j)
  wos l j := (V m c main_arg11 : Vec Ideal S35x2048 .f32) (ix2 l j)
  gp l j := (V m c main_arg12 : Vec Ideal S35x2048 .f32) (ix2 l j)

variable (t : Fin cfg0.N)

/-- The layer of a grid point. -/
def lay : Fin 35 := ⟨t.val / 2, by have : t.val < 70 := t.isLt; omega⟩

/-- The token of row `r` of a grid point's tile. -/
def tok (r : Fin 384) : Fin 768 := ⟨t.val % 2 * 384 + r.val, by omega⟩

/-- The row that a grid point computes as row `r` of its tile. -/
def rowOf (r : Fin 384) : Row := (kargs m c).row (lay t) (tok t r)

theorem iblk_0 (r : Fin 768) (k : Fin 2048) :
    (iblk m c 0 t : Vec Ideal S768x2048 .i8) (ix2 r k) = (V m c main_arg0 : Vec Ideal S768x2048 .i8) (ix2 r k) := by
  unfold iblk
  refine congrArg (V m c main_arg0 : Vec Ideal S768x2048 .i8) ?_
  have h := idx t
  blk_ext [h, lay, tok]

theorem iblk_1 (r : Fin 768) (k : Fin 128) :
    (iblk m c 1 t : Vec Ideal S768x128 .f32) (ix2 r k) = (V m c main_arg1 : Vec Ideal S768x128 .f32) (ix2 r k) := by
  unfold iblk
  refine congrArg (V m c main_arg1 : Vec Ideal S768x128 .f32) ?_
  have h := idx t
  blk_ext [h, lay, tok]

theorem iblk_2 (r : Fin 384) (k : Fin 128) :
    (iblk m c 2 t : Vec Ideal S1x384x128 .i8) (ix3 0 r k) = (V m c main_arg2 : Vec Ideal S35x768x128 .i8) (ix3 (lay t) (tok t r) k) := by
  unfold iblk
  refine congrArg (V m c main_arg2 : Vec Ideal S35x768x128 .i8) ?_
  have h := idx t
  blk_ext [h, lay, tok]

theorem iblk_3 (r : Fin 768) (k : Fin 128) :
    (iblk m c 3 t : Vec Ideal S768x128 .f32) (ix2 r k) = (V m c main_arg3 : Vec Ideal S768x128 .f32) (ix2 r k) := by
  unfold iblk
  refine congrArg (V m c main_arg3 : Vec Ideal S768x128 .f32) ?_
  have h := idx t
  blk_ext [h, lay, tok]

theorem iblk_4 (r : Fin 2048) (k : Fin 256) :
    (iblk m c 4 t : Vec Ideal S1x2048x256 .i8) (ix3 0 r k) = (V m c main_v0 : Vec Ideal S35x2048x256 .i8) (ix3 (lay t) r k) := by
  unfold iblk
  refine congrArg (V m c main_v0 : Vec Ideal S35x2048x256 .i8) ?_
  have h := idx t
  blk_ext [h, lay, tok]

theorem iblk_5 (r : Fin 35) (k : Fin 256) :
    (iblk m c 5 t : Vec Ideal S35x256 .f32) (ix2 r k) = (V m c main_arg5 : Vec Ideal S35x256 .f32) (ix2 r k) := by
  unfold iblk
  refine congrArg (V m c main_arg5 : Vec Ideal S35x256 .f32) ?_
  have h := idx t
  blk_ext [h, lay, tok]

theorem iblk_6 (r : Fin 1) (k : Fin 256) :
    (iblk m c 6 t : Vec Ideal S1x256 .f32) (ix2 r k) = (V m c main_v1 : Vec Ideal S1x256 .f32) (ix2 r k) := by
  unfold iblk
  refine congrArg (V m c main_v1 : Vec Ideal S1x256 .f32) ?_
  have h := idx t
  blk_ext [h, lay, tok]

theorem iblk_7 (r : Fin 384) (k : Fin 2048) :
    (iblk m c 7 t : Vec Ideal S1x384x2048 .bf16) (ix3 0 r k) = (V m c main_v2 : Vec Ideal S35x768x2048 .bf16) (ix3 (lay t) (tok t r) k) := by
  unfold iblk
  refine congrArg (V m c main_v2 : Vec Ideal S35x768x2048 .bf16) ?_
  have h := idx t
  blk_ext [h, lay, tok]

theorem iblk_8 (r : Fin 2048) (k : Fin 256) :
    (iblk m c 8 t : Vec Ideal S1x2048x256 .i8) (ix3 0 r k) = (V m c main_arg8 : Vec Ideal S35x2048x256 .i8) (ix3 (lay t) r k) := by
  unfold iblk
  refine congrArg (V m c main_arg8 : Vec Ideal S35x2048x256 .i8) ?_
  have h := idx t
  blk_ext [h, lay, tok]

theorem iblk_9 (r : Fin 35) (k : Fin 256) :
    (iblk m c 9 t : Vec Ideal S35x256 .f32) (ix2 r k) = (V m c main_arg9 : Vec Ideal S35x256 .f32) (ix2 r k) := by
  unfold iblk
  refine congrArg (V m c main_arg9 : Vec Ideal S35x256 .f32) ?_
  have h := idx t
  blk_ext [h, lay, tok]

theorem iblk_10 (r : Fin 256) (k : Fin 2048) :
    (iblk m c 10 t : Vec Ideal S1x256x2048 .i8) (ix3 0 r k) = (V m c main_arg10 : Vec Ideal S35x256x2048 .i8) (ix3 (lay t) r k) := by
  unfold iblk
  refine congrArg (V m c main_arg10 : Vec Ideal S35x256x2048 .i8) ?_
  have h := idx t
  blk_ext [h, lay, tok]

theorem iblk_11 (r : Fin 35) (k : Fin 2048) :
    (iblk m c 11 t : Vec Ideal S35x2048 .f32) (ix2 r k) = (V m c main_arg11 : Vec Ideal S35x2048 .f32) (ix2 r k) := by
  unfold iblk
  refine congrArg (V m c main_arg11 : Vec Ideal S35x2048 .f32) ?_
  have h := idx t
  blk_ext [h, lay, tok]

theorem iblk_12 (r : Fin 35) (k : Fin 2048) :
    (iblk m c 12 t : Vec Ideal S35x2048 .f32) (ix2 r k) = (V m c main_arg12 : Vec Ideal S35x2048 .f32) (ix2 r k) := by
  unfold iblk
  refine congrArg (V m c main_arg12 : Vec Ideal S35x2048 .f32) ?_
  have h := idx t
  blk_ext [h, lay, tok]

/-- What a widened weight block holds at an index. -/
theorem wide1 (v : Vec Ideal S1x2048x256 .i8) (k : Fin 2048) (j : Fin 256) : k0_pay31 v (ix2 k j) = int (v (ix3 0 k j)) := by
  pointwise [k0_pay31]
  rfl
theorem wide2 (v : Vec Ideal S1x2048x256 .i8) (k : Fin 2048) (j : Fin 256) : k0_pay32 v (ix2 k j) = int (v (ix3 0 k j)) := by
  pointwise [k0_pay32]
  rfl
theorem wide3 (v : Vec Ideal S1x256x2048 .i8) (k : Fin 256) (j : Fin 2048) : k0_pay33 v (ix2 k j) = int (v (ix3 0 k j)) := by
  pointwise [k0_pay33]
  rfl
theorem gs_at (v : Vec Ideal S1x256 .f32) (j : Fin 256) : k0_pay34 v (ix2 0 j) = v (ix2 0 j) := by
  pointwise [k0_pay34]

/-- `View.ld_unit_apply_of` with the offsets computed. -/
theorem ld_off {s : Shape} {Val : EltTy → Type} {e : EltTy} (X : s.Idx → Val e) (off : Fin s.rank → Nat) (size : Fin s.rank → Nat) (inb : ∀ a, off a + size a ≤ s.size a)
    (x : (⟨s.rank, size⟩ : Shape).Idx) (i : s.Idx) {off' : Fin s.rank → Nat} (e' : off = off') (hi : ∀ a, (i a).val = off' a + (x a).val) :
    View.ld X (Rect.unit off size inb) x = X i := by
  subst e'
  exact View.ld_unit_apply_of X off size inb x i hi

/-- What round `k` of the body computes at a grid point from the blocks staged there. -/
abbrev blkT (k : Fin 3) : Blk :=
  blkX (grid0.coords t) (iblk m c 0 t) (iblk m c 1 t) (iblk m c 2 t) (iblk m c 3 t) (iblk m c 5 t) (iblk m c 6 t) (iblk m c 7 t)
    (iblk m c 9 t) (iblk m c 11 t) (iblk m c 12 t) (k0_pay31 (iblk m c 4 t)) (k0_pay32 (iblk m c 8 t)) (k0_pay33 (iblk m c 10 t)) k

/-- Row `r` of round `k` is row `128 k + r` of the grid point's tile. -/
theorem blk_row (k : Fin 3) (r : Fin 128) : (blkT m c t k).row r = rowOf m c t (row3 k r) := by
  have hk := k.isLt
  have h0 := coords_0 t
  simp only [Blk.row, blkX, rowOf, Args.row, kargs, Row.mk.injEq]
  refine ⟨?_, ?_, ?_, ?_, ?_, ?_, ?_, ?_, ?_, ?_, ?_, ?_, ?_⟩
  · funext j
    refine congrArg int ((ld_off _ _ _ _ _ (ix2 (tok t (row3 k r)) j) (off3_eq t k) ?_).trans (iblk_0 m c t _ j))
    intro a; fin_cases a <;> simp [tok, row3] <;> omega
  · refine (ld_off _ _ _ _ _ (ix2 (tok t (row3 k r)) 0) (off4_eq t k) ?_).trans (iblk_1 m c t _ 0)
    intro a; fin_cases a <;> simp [tok, row3] <;> omega
  · funext j j'
    exact (wide1 _ j j').trans (congrArg int (iblk_4 m c t j j'))
  · funext j
    refine (ld_off _ _ _ _ _ (ix2 (lay t) j) (off1_eq t) ?_).trans (iblk_5 m c t _ j)
    intro a; fin_cases a <;> simp [lay]
  · funext j
    refine (gs_at _ j).trans ((View.ld_unit_apply_of _ _ _ _ _ (ix2 0 j) ?_).trans (iblk_6 m c t 0 j))
    intro a; fin_cases a <;> simp
  · funext j
    refine (View.ld_unit_apply_of _ _ _ _ _ (ix3 0 (row3 k r) j) ?_).trans (iblk_2 m c t _ j)
    intro a; fin_cases a <;> simp [row3]
  · refine (ld_off _ _ _ _ _ (ix2 (tok t (row3 k r)) ⟨(lay t).val, by have := (lay t).isLt; omega⟩) (off5_eq t k) ?_).trans (iblk_3 m c t _ _)
    intro a; fin_cases a <;> simp [tok, row3, lay, h0] <;> omega
  · funext j
    refine (View.ld_unit_apply_of _ _ _ _ _ (ix3 0 (row3 k r) j) ?_).trans (iblk_7 m c t _ j)
    intro a; fin_cases a <;> simp [row3]
  · funext j j'
    exact (wide2 _ j j').trans (congrArg int (iblk_8 m c t j j'))
  · funext j
    refine (ld_off _ _ _ _ _ (ix2 (lay t) j) (off1_eq t) ?_).trans (iblk_9 m c t _ j)
    intro a; fin_cases a <;> simp [lay]
  · funext j j'
    exact (wide3 _ j j').trans (congrArg int (iblk_10 m c t j j'))
  · funext j
    refine (ld_off _ _ _ _ _ (ix2 (lay t) j) (off2_eq t) ?_).trans (iblk_11 m c t _ j)
    intro a; fin_cases a <;> simp [lay]
  · funext j
    refine (ld_off _ _ _ _ _ (ix2 (lay t) j) (off2_eq t) ?_).trans (iblk_12 m c t _ j)
    intro a; fin_cases a <;> simp [lay]

end Cert.KernelIdeal.Val
-- ==== Proof.KVal.StoreAt.lean ====
/- The values that the body stores for 128 rows, at an index: the row's mathematics. -/
module

public import proofs.«01_k».proof.Proof.KVal.Stores

@[expose] public section

set_option maxRecDepth 16384

noncomputable section

namespace Cert.KernelIdeal.Val

open Idealize Idealize.ShloMosaic Idealize.ShloMosaic.Pointwise
open Cert.KernelIdeal Cert.KernelIdeal.Gen Cert.Spec

/-- A column of 128 turned into a row. -/
theorem turn_at (v : FVec Ideal S128x1 .f32) (r : Fin 128) : k0_pay15 (k0_pay67 v) (ix3 0 0 r) = v (ix2 r 0) := by
  pointwise [k0_pay15, k0_pay67]

namespace Blk

variable (B : Blk) (r : Fin 128)

theorem pP_at (c : Fin 256) : B.pP (ix4 0 0 r c) = (B.row r).p c := by
  rw [← B.p_at r c]
  unfold pP p k0_pay36
  generalize k0_pay35 B.wps B.ec B.wp B.es = z
  pointwise

theorem ccP_at (c : Fin 256) : B.ccP (ix4 0 0 r c) = Ideal.fptosi 8 ((B.row r).cc c) := by
  rw [← B.cc_at r c]
  unfold ccP cc k0_pay45
  generalize k0_pay44 B.comb B.cmax = z
  pointwise
  rfl

theorem hcP_at (c : Fin 2048) : B.hcP (ix3 0 r c) = Ideal.fptosi 8 ((B.row r).hc c) := by
  rw [← B.hc_at r c]
  unfold hcP hc k0_pay52
  generalize k0_pay51 B.hb B.hmax k0_pay49 = z
  pointwise

theorem glP_at (c : Fin 256) : B.glP (ix3 0 r c) = (B.row r).gl c := by
  rw [← B.gl_at r c]
  unfold glP gl k0_pay54
  generalize k0_pay53 B.wgs B.hb B.hmax k0_pay49 B.wg = z
  pointwise

theorem tP_at (c : Fin 256) : B.tP (ix3 0 r c) = (B.row r).t c := by
  rw [← B.t_at r c]
  unfold tP k0_pay56
  generalize B.t = z
  pointwise

theorem tcP_at (c : Fin 256) : B.tcP (ix3 0 r c) = Ideal.fptosi 8 ((B.row r).tc c) := by
  rw [← B.tc_at r c]
  unfold tcP tc k0_pay59
  generalize k0_pay58 B.t = z
  pointwise
  rfl

theorem yP_at (c : Fin 2048) : B.yP (ix3 0 r c) = (B.row r).y c := by
  rw [← B.y_at r c]
  unfold yP y k0_pay61
  generalize k0_pay60 B.wos B.t B.wo = z
  pointwise

theorem houtP_at (c : Fin 2048) : B.houtP (ix3 0 r c) = (B.row r).hout c := by
  have h1 := B.post_at r
  have h2 := B.hb_at r c
  have h3 := B.y_at r c
  unfold houtP k0_pay66
  unfold post at h1
  revert h1 h2 h3
  generalize k0_pay65 B.yy B.yyA B.yyB = u
  generalize B.hb = a
  generalize B.y = z
  intro h1 h2 h3
  have e : ∀ g : Vec Ideal S1x2048 .f32, shapeCast S1x128x2048 (truncf .bf16 (addf (extf .f32 a bitsLt_bf16_f32)
      (mulf (divf z (broadcastTo S128x2048 u broadcasts_S128x1_S128x2048)) (broadcastTo S128x2048 g broadcasts_S1x2048_S128x2048))) bitsLt_bf16_f32)
        shapeCasts_S128x2048_S1x128x2048 (ix3 0 r c)
      = a (ix2 r c) + Ideal.div (z (ix2 r c)) (u (ix2 r 0)) * g (ix2 0 c) := by
    intro g
    pointwise
  refine (e B.gp).trans ?_
  rw [h1, h2, h3]
  rfl

theorem segR_at : k0_pay15 B.segR (ix3 0 0 r) = (B.row r).seg := (turn_at B.seg r).trans (B.seg_at r)
theorem postR_at : k0_pay15 B.postR (ix3 0 0 r) = (B.row r).post := (turn_at B.post r).trans (B.post_at r)
theorem csR_at : k0_pay15 B.csR (ix3 0 0 r) = (B.row r).cs := (turn_at B.cs r).trans (B.cs_at r)
theorem hsR_at : k0_pay15 B.hsR (ix3 0 0 r) = (B.row r).hs := (turn_at B.hs r).trans (B.hs_at r)
theorem tsR_at : k0_pay15 B.tsR (ix3 0 0 r) = (B.row r).ts := (turn_at B.ts r).trans (B.ts_at r)

end Blk

end Cert.KernelIdeal.Val
-- ==== Proof.KVal.Close.lean ====
/- What each output window's staging buffer holds after a grid point, as the rows' mathematics. -/
module

public import proofs.«01_k».proof.Proof.KVal.Spec
public import proofs.«01_k».proof.Proof.KVal.StoreAt

@[expose] public section

set_option maxRecDepth 16384

noncomputable section

namespace Cert.KernelIdeal.Val

open Idealize Idealize.ShloMosaic Idealize.ShloMosaic.Pointwise Idealize.ShloMosaic.TcCoe
open Cert.KernelIdeal Cert.KernelIdeal.Gen Cert.Spec

variable (m : (ℓ : Loc nD τ sig) → Buf (Elt Ideal) ℓ) (c : Dev nD) (t : Fin cfg0.N)

/-- The token of lane `r` of row `b` of a statistics block. -/
def stok (b : Fin 2) (r : Fin 384) : Fin 768 := ⟨b.val * 384 + r.val, by omega⟩

/-- The row whose statistic stands at `y` of a statistics block. -/
def statRow (y : S1x2x384.Idx) : Row := (kargs m c).row (lay t) (stok (y 1) (y 2))

theorem rowOf_stat (y : S1x2x384.Idx) (h : (y 1).val = t.val % 2) : rowOf m c t (y 2) = statRow m c t y := by
  unfold rowOf statRow
  exact congrArg ((kargs m c).row (lay t)) (Fin.ext (by show t.val % 2 * 384 + (y 2).val = (y 1).val * 384 + (y 2).val; rw [h]))

/-- The relation a statistics buffer meets after a grid point: the tiles of the layer done so far hold `S` of their rows. -/
def Stat (S : Row → EReal) (X : S1x2x384.Idx → EReal) : Prop := ∀ y : S1x2x384.Idx, (y 1).val ≤ t.val % 2 → X y = S (statRow m c t y)

/-- What each window's staging buffer is held to after a grid point. -/
def Rl (w : Fin cfg0.W) (t : Fin cfg0.N) : ((cfg0.win w).block.Idx → Elt Ideal (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun _ => True
  | ⟨11, _⟩ => fun _ => True
  | ⟨12, _⟩ => fun _ => True
  | ⟨13, _⟩ => fun X => ∀ y : S1x384x2048.Idx, X y = (rowOf m c t (y 1)).hout (y 2)
  | ⟨14, _⟩ => fun X => Stat m c t Row.seg X
  | ⟨15, _⟩ => fun X => Stat m c t Row.post X
  | ⟨16, _⟩ => fun X => ∀ y : S1x1x384x256.Idx, X y = Ideal.fptosi 8 ((rowOf m c t (y 2)).cc (y 3))
  | ⟨17, _⟩ => fun X => Stat m c t Row.cs X
  | ⟨18, _⟩ => fun X => ∀ y : S1x384x2048.Idx, X y = Ideal.fptosi 8 ((rowOf m c t (y 1)).hc (y 2))
  | ⟨19, _⟩ => fun X => Stat m c t Row.hs X
  | ⟨20, _⟩ => fun X => ∀ y : S1x384x256.Idx, X y = Ideal.fptosi 8 ((rowOf m c t (y 1)).tc (y 2))
  | ⟨21, _⟩ => fun X => Stat m c t Row.ts X
  | ⟨22, _⟩ => fun X => ∀ y : S1x1x384x256.Idx, X y = (rowOf m c t (y 2)).p (y 3)
  | ⟨23, _⟩ => fun X => ∀ y : S1x384x256.Idx, X y = (rowOf m c t (y 1)).gl (y 2)
  | ⟨24, _⟩ => fun X => ∀ y : S1x384x256.Idx, X y = (rowOf m c t (y 1)).t (y 2)
  | ⟨25, _⟩ => fun X => ∀ y : S1x384x2048.Idx, X y = (rowOf m c t (y 1)).y (y 2)
  | ⟨_ + 26, h⟩ => absurd h (Nat.not_lt.2 (Nat.le_add_left _ _))

theorem rl_13 (X : Vec Ideal S1x384x2048 .bf16) : Rl m c 13 t X = (∀ y : S1x384x2048.Idx, X y = (rowOf m c t (y 1)).hout (y 2)) := rfl
theorem rl_14 (X : Vec Ideal S1x2x384 .f32) : Rl m c 14 t X = (Stat m c t Row.seg X) := rfl
theorem rl_15 (X : Vec Ideal S1x2x384 .f32) : Rl m c 15 t X = (Stat m c t Row.post X) := rfl
theorem rl_16 (X : Vec Ideal S1x1x384x256 .i8) : Rl m c 16 t X = (∀ y : S1x1x384x256.Idx, X y = Ideal.fptosi 8 ((rowOf m c t (y 2)).cc (y 3))) := rfl
theorem rl_17 (X : Vec Ideal S1x2x384 .f32) : Rl m c 17 t X = (Stat m c t Row.cs X) := rfl
theorem rl_18 (X : Vec Ideal S1x384x2048 .i8) : Rl m c 18 t X = (∀ y : S1x384x2048.Idx, X y = Ideal.fptosi 8 ((rowOf m c t (y 1)).hc (y 2))) := rfl
theorem rl_19 (X : Vec Ideal S1x2x384 .f32) : Rl m c 19 t X = (Stat m c t Row.hs X) := rfl
theorem rl_20 (X : Vec Ideal S1x384x256 .i8) : Rl m c 20 t X = (∀ y : S1x384x256.Idx, X y = Ideal.fptosi 8 ((rowOf m c t (y 1)).tc (y 2))) := rfl
theorem rl_21 (X : Vec Ideal S1x2x384 .f32) : Rl m c 21 t X = (Stat m c t Row.ts X) := rfl
theorem rl_22 (X : Vec Ideal S1x1x384x256 .f32) : Rl m c 22 t X = (∀ y : S1x1x384x256.Idx, X y = (rowOf m c t (y 2)).p (y 3)) := rfl
theorem rl_23 (X : Vec Ideal S1x384x256 .f32) : Rl m c 23 t X = (∀ y : S1x384x256.Idx, X y = (rowOf m c t (y 1)).gl (y 2)) := rfl
theorem rl_24 (X : Vec Ideal S1x384x256 .f32) : Rl m c 24 t X = (∀ y : S1x384x256.Idx, X y = (rowOf m c t (y 1)).t (y 2)) := rfl
theorem rl_25 (X : Vec Ideal S1x384x2048 .f32) : Rl m c 25 t X = (∀ y : S1x384x2048.Idx, X y = (rowOf m c t (y 1)).y (y 2)) := rfl

variable {κ : Kind} {sp : Space}

/-- After the first tile of a layer a statistics buffer holds that tile's row of `S`. -/
theorem statA (S : Row → EReal) (h0 : t.val % 2 = 0) (v : View sig κ sp S1x2x384 .f32) (f : v.ty.Contents (Elt Ideal)) (w : Fin 3 → Vec Ideal S1x1x128 .f32)
    (h : ∀ k r, w k (ix3 0 0 r) = S (rowOf m c t (row3 k r))) :
    Stat m c t S (v.read (Elt Ideal) (v.writes (Elt Ideal) f [⟨Rect.unit ![0, 0, 256] S1x1x128.size inb_S1x2x384_S1x1x128_0_0_256, w 2⟩,
      ⟨Rect.unit ![0, 0, 128] S1x1x128.size inb_S1x2x384_S1x1x128_0_0_128, w 1⟩, ⟨Rect.unit ![0, 0, 0] S1x1x128.size inb_S1x2x384_S1x1x128_0_0_0, w 0⟩])) := by
  intro y hy
  have hb : (y 1).val = 0 := by omega
  refine (lanes3 0 v f w (fun r => S (rowOf m c t r)) _ _ _ h y).trans ?_
  rw [if_pos hb]
  exact congrArg S (rowOf_stat m c t y (hb.trans h0.symm))

/-- After the second tile of a layer it holds both rows. -/
theorem statB (S : Row → EReal) (h1 : t.val % 2 = 1) (v : View sig κ sp S1x2x384 .f32) (f : v.ty.Contents (Elt Ideal)) (w : Fin 3 → Vec Ideal S1x1x128 .f32)
    (h : ∀ k r, w k (ix3 0 0 r) = S (rowOf m c t (row3 k r)))
    (hf : ∀ y : S1x2x384.Idx, (y 1).val = 0 → v.read (Elt Ideal) f y = S (statRow m c t y)) :
    Stat m c t S (v.read (Elt Ideal) (v.writes (Elt Ideal) f [⟨Rect.unit ![0, 1, 256] S1x1x128.size inb_S1x2x384_S1x1x128_0_1_256, w 2⟩,
      ⟨Rect.unit ![0, 1, 128] S1x1x128.size inb_S1x2x384_S1x1x128_0_1_128, w 1⟩, ⟨Rect.unit ![0, 1, 0] S1x1x128.size inb_S1x2x384_S1x1x128_0_1_0, w 0⟩])) := by
  intro y hy
  refine (lanes3 1 v f w (fun r => S (rowOf m c t r)) _ _ _ h y).trans ?_
  by_cases hb : (y 1).val = 1
  · rw [if_pos hb]
    exact congrArg S (rowOf_stat m c t y (hb.trans h1.symm))
  · rw [if_neg hb]
    exact hf y (by omega)

theorem close_13 (v : View sig κ sp S1x384x2048 .bf16) (f : v.ty.Contents (Elt Ideal)) (y : S1x384x2048.Idx) :
    v.read (Elt Ideal) (v.writes (Elt Ideal) f [⟨Rect.unit ![0, 256, 0] S1x128x2048.size inb_S1x384x2048_S1x128x2048_0_256_0, Blk.houtP (blkT m c t 2)⟩,
      ⟨Rect.unit ![0, 128, 0] S1x128x2048.size inb_S1x384x2048_S1x128x2048_0_128_0, Blk.houtP (blkT m c t 1)⟩,
      ⟨Rect.unit ![0, 0, 0] S1x128x2048.size inb_S1x384x2048_S1x128x2048_0_0_0, Blk.houtP (blkT m c t 0)⟩]) y = (rowOf m c t (y 1)).hout (y 2) :=
  stack3 v f (fun k => Blk.houtP (blkT m c t k)) (fun r j => (fun R : Row => R.hout j) (rowOf m c t r)) _ _ _
    (fun k r j => (Blk.houtP_at _ r j).trans (congrArg (fun R : Row => R.hout j) (blk_row m c t k r))) y

theorem row_14 (k : Fin 3) (r : Fin 128) : k0_pay15 (Blk.segR (blkT m c t k)) (ix3 0 0 r) = Row.seg (rowOf m c t (row3 k r)) :=
  (Blk.segR_at _ r).trans (congrArg Row.seg (blk_row m c t k r))

theorem row_15 (k : Fin 3) (r : Fin 128) : k0_pay15 (Blk.postR (blkT m c t k)) (ix3 0 0 r) = Row.post (rowOf m c t (row3 k r)) :=
  (Blk.postR_at _ r).trans (congrArg Row.post (blk_row m c t k r))

theorem close_16 (v : View sig κ sp S1x1x384x256 .i8) (f : v.ty.Contents (Elt Ideal)) (y : S1x1x384x256.Idx) :
    v.read (Elt Ideal) (v.writes (Elt Ideal) f [⟨Rect.unit ![0, 0, 256, 0] S1x1x128x256.size inb_S1x1x384x256_S1x1x128x256_0_0_256_0, Blk.ccP (blkT m c t 2)⟩,
      ⟨Rect.unit ![0, 0, 128, 0] S1x1x128x256.size inb_S1x1x384x256_S1x1x128x256_0_0_128_0, Blk.ccP (blkT m c t 1)⟩,
      ⟨Rect.unit ![0, 0, 0, 0] S1x1x128x256.size inb_S1x1x384x256_S1x1x128x256_0_0_0_0, Blk.ccP (blkT m c t 0)⟩]) y = Ideal.fptosi 8 ((rowOf m c t (y 2)).cc (y 3)) :=
  stack4 v f (fun k => Blk.ccP (blkT m c t k)) (fun r j => (fun R : Row => Ideal.fptosi 8 (R.cc j)) (rowOf m c t r)) _ _ _
    (fun k r j => (Blk.ccP_at _ r j).trans (congrArg (fun R : Row => Ideal.fptosi 8 (R.cc j)) (blk_row m c t k r))) y

theorem row_17 (k : Fin 3) (r : Fin 128) : k0_pay15 (Blk.csR (blkT m c t k)) (ix3 0 0 r) = Row.cs (rowOf m c t (row3 k r)) :=
  (Blk.csR_at _ r).trans (congrArg Row.cs (blk_row m c t k r))

theorem close_18 (v : View sig κ sp S1x384x2048 .i8) (f : v.ty.Contents (Elt Ideal)) (y : S1x384x2048.Idx) :
    v.read (Elt Ideal) (v.writes (Elt Ideal) f [⟨Rect.unit ![0, 256, 0] S1x128x2048.size inb_S1x384x2048_S1x128x2048_0_256_0, Blk.hcP (blkT m c t 2)⟩,
      ⟨Rect.unit ![0, 128, 0] S1x128x2048.size inb_S1x384x2048_S1x128x2048_0_128_0, Blk.hcP (blkT m c t 1)⟩,
      ⟨Rect.unit ![0, 0, 0] S1x128x2048.size inb_S1x384x2048_S1x128x2048_0_0_0, Blk.hcP (blkT m c t 0)⟩]) y = Ideal.fptosi 8 ((rowOf m c t (y 1)).hc (y 2)) :=
  stack3 v f (fun k => Blk.hcP (blkT m c t k)) (fun r j => (fun R : Row => Ideal.fptosi 8 (R.hc j)) (rowOf m c t r)) _ _ _
    (fun k r j => (Blk.hcP_at _ r j).trans (congrArg (fun R : Row => Ideal.fptosi 8 (R.hc j)) (blk_row m c t k r))) y

theorem row_19 (k : Fin 3) (r : Fin 128) : k0_pay15 (Blk.hsR (blkT m c t k)) (ix3 0 0 r) = Row.hs (rowOf m c t (row3 k r)) :=
  (Blk.hsR_at _ r).trans (congrArg Row.hs (blk_row m c t k r))

theorem close_20 (v : View sig κ sp S1x384x256 .i8) (f : v.ty.Contents (Elt Ideal)) (y : S1x384x256.Idx) :
    v.read (Elt Ideal) (v.writes (Elt Ideal) f [⟨Rect.unit ![0, 256, 0] S1x128x256.size inb_S1x384x256_S1x128x256_0_256_0, Blk.tcP (blkT m c t 2)⟩,
      ⟨Rect.unit ![0, 128, 0] S1x128x256.size inb_S1x384x256_S1x128x256_0_128_0, Blk.tcP (blkT m c t 1)⟩,
      ⟨Rect.unit ![0, 0, 0] S1x128x256.size inb_S1x384x256_S1x128x256_0_0_0, Blk.tcP (blkT m c t 0)⟩]) y = Ideal.fptosi 8 ((rowOf m c t (y 1)).tc (y 2)) :=
  stack3 v f (fun k => Blk.tcP (blkT m c t k)) (fun r j => (fun R : Row => Ideal.fptosi 8 (R.tc j)) (rowOf m c t r)) _ _ _
    (fun k r j => (Blk.tcP_at _ r j).trans (congrArg (fun R : Row => Ideal.fptosi 8 (R.tc j)) (blk_row m c t k r))) y

theorem row_21 (k : Fin 3) (r : Fin 128) : k0_pay15 (Blk.tsR (blkT m c t k)) (ix3 0 0 r) = Row.ts (rowOf m c t (row3 k r)) :=
  (Blk.tsR_at _ r).trans (congrArg Row.ts (blk_row m c t k r))

theorem close_22 (v : View sig κ sp S1x1x384x256 .f32) (f : v.ty.Contents (Elt Ideal)) (y : S1x1x384x256.Idx) :
    v.read (Elt Ideal) (v.writes (Elt Ideal) f [⟨Rect.unit ![0, 0, 256, 0] S1x1x128x256.size inb_S1x1x384x256_S1x1x128x256_0_0_256_0, Blk.pP (blkT m c t 2)⟩,
      ⟨Rect.unit ![0, 0, 128, 0] S1x1x128x256.size inb_S1x1x384x256_S1x1x128x256_0_0_128_0, Blk.pP (blkT m c t 1)⟩,
      ⟨Rect.unit ![0, 0, 0, 0] S1x1x128x256.size inb_S1x1x384x256_S1x1x128x256_0_0_0_0, Blk.pP (blkT m c t 0)⟩]) y = (rowOf m c t (y 2)).p (y 3) :=
  stack4 v f (fun k => Blk.pP (blkT m c t k)) (fun r j => (fun R : Row => R.p j) (rowOf m c t r)) _ _ _
    (fun k r j => (Blk.pP_at _ r j).trans (congrArg (fun R : Row => R.p j) (blk_row m c t k r))) y

theorem close_23 (v : View sig κ sp S1x384x256 .f32) (f : v.ty.Contents (Elt Ideal)) (y : S1x384x256.Idx) :
    v.read (Elt Ideal) (v.writes (Elt Ideal) f [⟨Rect.unit ![0, 256, 0] S1x128x256.size inb_S1x384x256_S1x128x256_0_256_0, Blk.glP (blkT m c t 2)⟩,
      ⟨Rect.unit ![0, 128, 0] S1x128x256.size inb_S1x384x256_S1x128x256_0_128_0, Blk.glP (blkT m c t 1)⟩,
      ⟨Rect.unit ![0, 0, 0] S1x128x256.size inb_S1x384x256_S1x128x256_0_0_0, Blk.glP (blkT m c t 0)⟩]) y = (rowOf m c t (y 1)).gl (y 2) :=
  stack3 v f (fun k => Blk.glP (blkT m c t k)) (fun r j => (fun R : Row => R.gl j) (rowOf m c t r)) _ _ _
    (fun k r j => (Blk.glP_at _ r j).trans (congrArg (fun R : Row => R.gl j) (blk_row m c t k r))) y

theorem close_24 (v : View sig κ sp S1x384x256 .f32) (f : v.ty.Contents (Elt Ideal)) (y : S1x384x256.Idx) :
    v.read (Elt Ideal) (v.writes (Elt Ideal) f [⟨Rect.unit ![0, 256, 0] S1x128x256.size inb_S1x384x256_S1x128x256_0_256_0, Blk.tP (blkT m c t 2)⟩,
      ⟨Rect.unit ![0, 128, 0] S1x128x256.size inb_S1x384x256_S1x128x256_0_128_0, Blk.tP (blkT m c t 1)⟩,
      ⟨Rect.unit ![0, 0, 0] S1x128x256.size inb_S1x384x256_S1x128x256_0_0_0, Blk.tP (blkT m c t 0)⟩]) y = (rowOf m c t (y 1)).t (y 2) :=
  stack3 v f (fun k => Blk.tP (blkT m c t k)) (fun r j => (fun R : Row => R.t j) (rowOf m c t r)) _ _ _
    (fun k r j => (Blk.tP_at _ r j).trans (congrArg (fun R : Row => R.t j) (blk_row m c t k r))) y

theorem close_25 (v : View sig κ sp S1x384x2048 .f32) (f : v.ty.Contents (Elt Ideal)) (y : S1x384x2048.Idx) :
    v.read (Elt Ideal) (v.writes (Elt Ideal) f [⟨Rect.unit ![0, 256, 0] S1x128x2048.size inb_S1x384x2048_S1x128x2048_0_256_0, Blk.yP (blkT m c t 2)⟩,
      ⟨Rect.unit ![0, 128, 0] S1x128x2048.size inb_S1x384x2048_S1x128x2048_0_128_0, Blk.yP (blkT m c t 1)⟩,
      ⟨Rect.unit ![0, 0, 0] S1x128x2048.size inb_S1x384x2048_S1x128x2048_0_0_0, Blk.yP (blkT m c t 0)⟩]) y = (rowOf m c t (y 1)).y (y 2) :=
  stack3 v f (fun k => Blk.yP (blkT m c t k)) (fun r j => (fun R : Row => R.y j) (rowOf m c t r)) _ _ _
    (fun k r j => (Blk.yP_at _ r j).trans (congrArg (fun R : Row => R.y j) (blk_row m c t k r))) y

end Cert.KernelIdeal.Val
-- ==== Proof.KVal.Data.lean ====
/- The proof data of the pipeline at the ideal values: the inputs exact, each output held to its rows' mathematics. -/
module

public import proofs.«01_k».proof.Proof.KVal.Runs
public import proofs.«01_k».proof.Proof.KVal.Close
public import Idealize.ShloMosaic.Lib.Pipeline.DatRel

@[expose] public section

set_option maxRecDepth 16384

noncomputable section

namespace Cert.KernelIdeal.Val

open Cert.KernelIdeal Cert.KernelIdeal.Gen Cert.Spec
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- The output windows: those held to a relation. -/
def fgt : Fin 26 → Bool := fun w => w.val == 13 || w.val == 14 || w.val == 15 || w.val == 16 || w.val == 17 || w.val == 18 || w.val == 19 || w.val == 20 || w.val == 21 || w.val == 22 || w.val == 23 || w.val == 24 || w.val == 25

/-- The scratch buffers at the widened weights of a layer's blocks, with the generator's register at anything. -/
def scr (c : Dev nD) (x4 : Vec Ideal S1x2048x256 .i8) (x8 : Vec Ideal S1x2048x256 .i8) (x10 : Vec Ideal S1x256x2048 .i8) : sProp 𝕄 :=
  iprop(iprop(owns (c : Thread nD τ) scM0_0 fullShare (k0_pay31 (F := Ideal) x4) ∗ owns (c : Thread nD τ) scM0_1 fullShare (k0_pay32 (F := Ideal) x8) ∗ owns (c : Thread nD τ) scM0_2 fullShare (k0_pay33 (F := Ideal) x10)) ∗ (∃ r, prngReg c r))

/-- The region's invariant before position `n`: before a layer's second tile the scratch holds the layer's widened weights;
    before its first, anything. -/
def PhiV (c : Dev nD) (n : ℕ) (h : n ≤ cfg0.N) : sProp 𝕄 :=
  if h0 : n % 2 = 1 then
    scr c (iblk m c 4 ⟨n - 1, by omega⟩) (iblk m c 8 ⟨n - 1, by omega⟩) (iblk m c 10 ⟨n - 1, by omega⟩)
  else Pipeline.ΦA spec0 c

theorem PhiV_even (c : Dev nD) (n : ℕ) (h : n ≤ cfg0.N) (h0 : n % 2 = 0) : PhiV m c n h = Pipeline.ΦA spec0 c :=
  dif_neg (by omega)

theorem PhiV_succ (c : Dev nD) (t : Fin cfg0.N) (h0 : t.val % 2 = 0) :
    PhiV m c (t.val + 1) t.isLt = scr c (iblk m c 4 t) (iblk m c 8 t) (iblk m c 10 t) :=
  dif_pos (by omega)

theorem lay_prev (t : Fin cfg0.N) (h1 : t.val % 2 = 1) : lay ⟨t.val - 1, Nat.lt_of_le_of_lt (Nat.sub_le _ _) t.isLt⟩ = lay t :=
  Fin.ext (by show (t.val - 1) / 2 = t.val / 2; omega)

/-- The two points of a layer have the same block of weights. -/
theorem prev_4 (c : Dev nD) (t : Fin cfg0.N) (h1 : t.val % 2 = 1) :
    (iblk m c 4 ⟨t.val - 1, Nat.lt_of_le_of_lt (Nat.sub_le _ _) t.isLt⟩ : Vec Ideal S1x2048x256 .i8) = iblk m c 4 t := by
  funext y
  have e : y = ix3 0 (y 1) (y 2) := by
    rw [eq_ix3 y]; exact congrArg (fun z => ix3 z (y 1) (y 2)) (Fin.ext (by have : (y 0).val < 1 := (y 0).isLt; show (y 0).val = 0; omega))
  rw [e]
  refine (iblk_4 m c _ (y 1) (y 2)).trans (Eq.trans ?_ (iblk_4 m c t (y 1) (y 2)).symm)
  rw [lay_prev t h1]

/-- The two points of a layer have the same block of weights. -/
theorem prev_8 (c : Dev nD) (t : Fin cfg0.N) (h1 : t.val % 2 = 1) :
    (iblk m c 8 ⟨t.val - 1, Nat.lt_of_le_of_lt (Nat.sub_le _ _) t.isLt⟩ : Vec Ideal S1x2048x256 .i8) = iblk m c 8 t := by
  funext y
  have e : y = ix3 0 (y 1) (y 2) := by
    rw [eq_ix3 y]; exact congrArg (fun z => ix3 z (y 1) (y 2)) (Fin.ext (by have : (y 0).val < 1 := (y 0).isLt; show (y 0).val = 0; omega))
  rw [e]
  refine (iblk_8 m c _ (y 1) (y 2)).trans (Eq.trans ?_ (iblk_8 m c t (y 1) (y 2)).symm)
  rw [lay_prev t h1]

/-- The two points of a layer have the same block of weights. -/
theorem prev_10 (c : Dev nD) (t : Fin cfg0.N) (h1 : t.val % 2 = 1) :
    (iblk m c 10 ⟨t.val - 1, Nat.lt_of_le_of_lt (Nat.sub_le _ _) t.isLt⟩ : Vec Ideal S1x256x2048 .i8) = iblk m c 10 t := by
  funext y
  have e : y = ix3 0 (y 1) (y 2) := by
    rw [eq_ix3 y]; exact congrArg (fun z => ix3 z (y 1) (y 2)) (Fin.ext (by have : (y 0).val < 1 := (y 0).isLt; show (y 0).val = 0; omega))
  rw [e]
  refine (iblk_10 m c _ (y 1) (y 2)).trans (Eq.trans ?_ (iblk_10 m c t (y 1) (y 2)).symm)
  rw [lay_prev t h1]

theorem PhiV_odd (c : Dev nD) (t : Fin cfg0.N) (h1 : t.val % 2 = 1) :
    PhiV m c t.val (Nat.le_of_lt t.isLt) = scr c (iblk m c 4 t) (iblk m c 8 t) (iblk m c 10 t) := by
  rw [← prev_4 m c t h1, ← prev_8 m c t h1, ← prev_10 m c t h1]
  exact dif_pos h1

/-- The proof data: the arrays as the region finds them; the inputs' buffers at their blocks; the invariant `PhiV`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => View.canon []
    | ⟨14, _⟩ => View.canon []
    | ⟨15, _⟩ => View.canon []
    | ⟨16, _⟩ => View.canon []
    | ⟨17, _⟩ => View.canon []
    | ⟨18, _⟩ => View.canon []
    | ⟨19, _⟩ => View.canon []
    | ⟨20, _⟩ => View.canon []
    | ⟨21, _⟩ => View.canon []
    | ⟨22, _⟩ => View.canon []
    | ⟨23, _⟩ => View.canon []
    | ⟨24, _⟩ => View.canon []
    | ⟨25, _⟩ => View.canon []
    | ⟨_ + 26, h⟩ => absurd h (Nat.not_lt.2 (Nat.le_add_left _ _))
  Φ t := PhiV m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiV m c t.val (Nat.le_of_lt t.isLt) := by
  dsimp only [dats]; exact Pipeline.Dat.Φ_castSucc (PhiV m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- The relational proof data: each output held to `Rl`. -/
abbrev rd (c : Dev nD) : RDat τ (Elt Ideal) Unit ℕ (UR sig nD τ) ℕ cfg0 c := (dats m 0 c).toRRel fgt (Rl m c)

theorem nofetch_14 : ∀ t : Fin cfg0.N, (cfg0.win 14).fetch t = false := (by decide +kernel : ∀ t : Fin grid0.N, _)

/-- What a layer's second tile finds in window 14's buffer: the first tile's row. -/
theorem found_14 (c : Dev nD) (t : Fin cfg0.N) (h1 : t.val % 2 = 1) (Y : Vec Ideal S1x2x384 .f32) (hF : (rd m c).Finds 14 t Y)
    (y : S1x2x384.Idx) (hy : (y 1).val = 0) : Y y = Row.seg (statRow m c t y) := by
  rcases (RDat.finds_of_pos (rd m c) (w := 14) (nofetch_14 t) (by omega) Y).mp hF with hfl | hL
  · exfalso
    have := (flush0_14 _).mp hfl
    have e : (t.val - 1) % 2 = 1 := this
    omega
  · have hR : Stat m c ⟨t.val - 1, Nat.lt_of_le_of_lt (Nat.sub_le _ _) t.isLt⟩ Row.seg Y := Dat.toRRel_leaves (dats m 0 c) (w := 14) (by rfl) hL
    refine (hR y (by omega)).trans (congrArg Row.seg ?_)
    unfold statRow
    rw [lay_prev t h1]

theorem nofetch_15 : ∀ t : Fin cfg0.N, (cfg0.win 15).fetch t = false := (by decide +kernel : ∀ t : Fin grid0.N, _)

/-- What a layer's second tile finds in window 15's buffer: the first tile's row. -/
theorem found_15 (c : Dev nD) (t : Fin cfg0.N) (h1 : t.val % 2 = 1) (Y : Vec Ideal S1x2x384 .f32) (hF : (rd m c).Finds 15 t Y)
    (y : S1x2x384.Idx) (hy : (y 1).val = 0) : Y y = Row.post (statRow m c t y) := by
  rcases (RDat.finds_of_pos (rd m c) (w := 15) (nofetch_15 t) (by omega) Y).mp hF with hfl | hL
  · exfalso
    have := (flush0_15 _).mp hfl
    have e : (t.val - 1) % 2 = 1 := this
    omega
  · have hR : Stat m c ⟨t.val - 1, Nat.lt_of_le_of_lt (Nat.sub_le _ _) t.isLt⟩ Row.post Y := Dat.toRRel_leaves (dats m 0 c) (w := 15) (by rfl) hL
    refine (hR y (by omega)).trans (congrArg Row.post ?_)
    unfold statRow
    rw [lay_prev t h1]

theorem nofetch_17 : ∀ t : Fin cfg0.N, (cfg0.win 17).fetch t = false := (by decide +kernel : ∀ t : Fin grid0.N, _)

/-- What a layer's second tile finds in window 17's buffer: the first tile's row. -/
theorem found_17 (c : Dev nD) (t : Fin cfg0.N) (h1 : t.val % 2 = 1) (Y : Vec Ideal S1x2x384 .f32) (hF : (rd m c).Finds 17 t Y)
    (y : S1x2x384.Idx) (hy : (y 1).val = 0) : Y y = Row.cs (statRow m c t y) := by
  rcases (RDat.finds_of_pos (rd m c) (w := 17) (nofetch_17 t) (by omega) Y).mp hF with hfl | hL
  · exfalso
    have := (flush0_17 _).mp hfl
    have e : (t.val - 1) % 2 = 1 := this
    omega
  · have hR : Stat m c ⟨t.val - 1, Nat.lt_of_le_of_lt (Nat.sub_le _ _) t.isLt⟩ Row.cs Y := Dat.toRRel_leaves (dats m 0 c) (w := 17) (by rfl) hL
    refine (hR y (by omega)).trans (congrArg Row.cs ?_)
    unfold statRow
    rw [lay_prev t h1]

theorem nofetch_19 : ∀ t : Fin cfg0.N, (cfg0.win 19).fetch t = false := (by decide +kernel : ∀ t : Fin grid0.N, _)

/-- What a layer's second tile finds in window 19's buffer: the first tile's row. -/
theorem found_19 (c : Dev nD) (t : Fin cfg0.N) (h1 : t.val % 2 = 1) (Y : Vec Ideal S1x2x384 .f32) (hF : (rd m c).Finds 19 t Y)
    (y : S1x2x384.Idx) (hy : (y 1).val = 0) : Y y = Row.hs (statRow m c t y) := by
  rcases (RDat.finds_of_pos (rd m c) (w := 19) (nofetch_19 t) (by omega) Y).mp hF with hfl | hL
  · exfalso
    have := (flush0_19 _).mp hfl
    have e : (t.val - 1) % 2 = 1 := this
    omega
  · have hR : Stat m c ⟨t.val - 1, Nat.lt_of_le_of_lt (Nat.sub_le _ _) t.isLt⟩ Row.hs Y := Dat.toRRel_leaves (dats m 0 c) (w := 19) (by rfl) hL
    refine (hR y (by omega)).trans (congrArg Row.hs ?_)
    unfold statRow
    rw [lay_prev t h1]

theorem nofetch_21 : ∀ t : Fin cfg0.N, (cfg0.win 21).fetch t = false := (by decide +kernel : ∀ t : Fin grid0.N, _)

/-- What a layer's second tile finds in window 21's buffer: the first tile's row. -/
theorem found_21 (c : Dev nD) (t : Fin cfg0.N) (h1 : t.val % 2 = 1) (Y : Vec Ideal S1x2x384 .f32) (hF : (rd m c).Finds 21 t Y)
    (y : S1x2x384.Idx) (hy : (y 1).val = 0) : Y y = Row.ts (statRow m c t y) := by
  rcases (RDat.finds_of_pos (rd m c) (w := 21) (nofetch_21 t) (by omega) Y).mp hF with hfl | hL
  · exfalso
    have := (flush0_21 _).mp hfl
    have e : (t.val - 1) % 2 = 1 := this
    omega
  · have hR : Stat m c ⟨t.val - 1, Nat.lt_of_le_of_lt (Nat.sub_le _ _) t.isLt⟩ Row.ts Y := Dat.toRRel_leaves (dats m 0 c) (w := 21) (by rfl) hL
    refine (hR y (by omega)).trans (congrArg Row.ts ?_)
    unfold statRow
    rw [lay_prev t h1]

end Cert.KernelIdeal.Val
-- ==== Proof.KVal.RunA.lean ====
/- The run of the kernel's body at the points of case A, with the pieces that it writes into each output. -/
module

public import proofs.«01_k».proof.Proof.KVal.Runs

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the points of case A (the first batch row of a layer), on whole staging memrefs: the inputs hold `x0` … `x12` and the five
    statistics windows `y14` … `y21`. The body runs to the continuation with the inputs as they were and each
    output and scratch with its pieces written (last first). The pieces are the witness that the run finds. -/
noncomputable def runA (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : cond0_0 i) (hc1 : cond0_1 i) (hc2 : ¬cond0_2 i)
    (x0 : Vec F S768x2048 .i8) (x1 : Vec F S768x128 .f32) (x2 : Vec F S1x384x128 .i8) (x3 : Vec F S768x128 .f32) (x4 : Vec F S1x2048x256 .i8) (x5 : Vec F S35x256 .f32) (x6 : Vec F S1x256 .f32) (x7 : Vec F S1x384x2048 .bf16) (x8 : Vec F S1x2048x256 .i8) (x9 : Vec F S35x256 .f32) (x10 : Vec F S1x256x2048 .i8) (x11 : Vec F S35x2048 .f32) (x12 : Vec F S35x2048 .f32) (y14 : Vec F S1x2x384 .f32) (y15 : Vec F S1x2x384 .f32) (y17 : Vec F S1x2x384 .f32) (y19 : Vec F S1x2x384 .f32) (y21 : Vec F S1x2x384 .f32) :
    Σ' (L13 : List (View.Piece (Elt F) S1x384x2048 .bf16)), Σ' (L14 : List (View.Piece (Elt F) S1x2x384 .f32)), Σ' (L15 : List (View.Piece (Elt F) S1x2x384 .f32)), Σ' (L16 : List (View.Piece (Elt F) S1x1x384x256 .i8)), Σ' (L17 : List (View.Piece (Elt F) S1x2x384 .f32)), Σ' (L18 : List (View.Piece (Elt F) S1x384x2048 .i8)), Σ' (L19 : List (View.Piece (Elt F) S1x2x384 .f32)), Σ' (L20 : List (View.Piece (Elt F) S1x384x256 .i8)), Σ' (L21 : List (View.Piece (Elt F) S1x2x384 .f32)), Σ' (L22 : List (View.Piece (Elt F) S1x1x384x256 .f32)), Σ' (L23 : List (View.Piece (Elt F) S1x384x256 .f32)), Σ' (L24 : List (View.Piece (Elt F) S1x384x256 .f32)), Σ' (L25 : List (View.Piece (Elt F) S1x384x2048 .f32)), Σ' (LS0 : List (View.Piece (Elt F) S2048x256 .bf16)), Σ' (LS1 : List (View.Piece (Elt F) S2048x256 .bf16)), { LS2 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare y14 ∗ owns (c : Thread nD τ) arg17 fullShare y15 ∗ (∃ d, owns (c : Thread nD τ) arg18 fullShare d) ∗ owns (c : Thread nD τ) arg19 fullShare y17 ∗ (∃ d, owns (c : Thread nD τ) arg20 fullShare d) ∗ owns (c : Thread nD τ) arg21 fullShare y19 ∗ (∃ d, owns (c : Thread nD τ) arg22 fullShare d) ∗ owns (c : Thread nD τ) arg23 fullShare y21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (arg16.view.loc (c : Thread nD τ) ↦[arg16.view.set]{fullShare} arg16.view.writes (Elt F) (harg16.unread y14) L14) ∗ (arg17.view.loc (c : Thread nD τ) ↦[arg17.view.set]{fullShare} arg17.view.writes (Elt F) (harg17.unread y15) L15) ∗ (∃ f, arg18.view.loc (c : Thread nD τ) ↦[arg18.view.set]{fullShare} arg18.view.writes (Elt F) f L16) ∗ (arg19.view.loc (c : Thread nD τ) ↦[arg19.view.set]{fullShare} arg19.view.writes (Elt F) (harg19.unread y17) L17) ∗ (∃ f, arg20.view.loc (c : Thread nD τ) ↦[arg20.view.set]{fullShare} arg20.view.writes (Elt F) f L18) ∗ (arg21.view.loc (c : Thread nD τ) ↦[arg21.view.set]{fullShare} arg21.view.writes (Elt F) (harg21.unread y19) L19) ∗ (∃ f, arg22.view.loc (c : Thread nD τ) ↦[arg22.view.set]{fullShare} arg22.view.writes (Elt F) f L20) ∗ (arg23.view.loc (c : Thread nD τ) ↦[arg23.view.set]{fullShare} arg23.view.writes (Elt F) (harg23.unread y21) L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f LS0) ∗ (∃ f, arg29.view.loc (c : Thread nD τ) ↦[arg29.view.set]{fullShare} arg29.view.writes (Elt F) f LS1) ∗ (∃ f, arg30.view.loc (c : Thread nD τ) ↦[arg30.view.set]{fullShare} arg30.view.writes (Elt F) f LS2)) -∗ K ⟨⟩))
          ⊢ wp frame (wpE (defs₀ (F := F)) Variants.none c none) E (cc0_ple_inject i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, ?_, ?_, ?_, ?_, ?_, ?_, ?_, ?_, fun E K => ?run⟩
  case run =>
    simp only [cc0_ple_inject_eq_skeleton]; unfold cc0_ple_inject_skel
    simp only [k0_part20_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg23.eq_unread hf21; obtain rfl := harg21.eq_unread hf19; obtain rfl := harg19.eq_unread hf17; obtain rfl := harg17.eq_unread hf15; obtain rfl := harg16.eq_unread hf14
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexact H14
    isplitl [H15]; · iexact H15
    isplitl [H16]; · iexists _; iexact H16
    isplitl [H17]; · iexact H17
    isplitl [H18]; · iexists _; iexact H18
    isplitl [H19]; · iexact H19
    isplitl [H20]; · iexists _; iexact H20
    isplitl [H21]; · iexact H21
    isplitl [H22]; · iexists _; iexact H22
    isplitl [H23]; · iexists _; iexact H23
    isplitl [H24]; · iexists _; iexact H24
    isplitl [H25]; · iexists _; iexact H25
    isplitl [HS0]; · iexists _; iexact HS0
    isplitl [HS1]; · iexists _; iexact HS1
    iexists _; iexact HS2

end Cert.KernelIdeal.Val

end
-- ==== Proof.KVal.RunB.lean ====
/- The run of the kernel's body at the points of case B, with the pieces that it writes into each output. -/
module

public import proofs.«01_k».proof.Proof.KVal.RunA

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the points of case B (the second batch row of a layer), on whole staging memrefs: the inputs hold `x0` … `x12` and the five
    statistics windows `y14` … `y21`, the scratch `xs0` … `xs2`. The body runs to the continuation with the inputs as they were and each
    output with its pieces written (last first). The pieces are the witness that the run finds. -/
noncomputable def runB (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : ¬cond0_0 i) (hc1 : ¬cond0_1 i) (hc2 : cond0_2 i)
    (x0 : Vec F S768x2048 .i8) (x1 : Vec F S768x128 .f32) (x2 : Vec F S1x384x128 .i8) (x3 : Vec F S768x128 .f32) (x4 : Vec F S1x2048x256 .i8) (x5 : Vec F S35x256 .f32) (x6 : Vec F S1x256 .f32) (x7 : Vec F S1x384x2048 .bf16) (x8 : Vec F S1x2048x256 .i8) (x9 : Vec F S35x256 .f32) (x10 : Vec F S1x256x2048 .i8) (x11 : Vec F S35x2048 .f32) (x12 : Vec F S35x2048 .f32) (y14 : Vec F S1x2x384 .f32) (y15 : Vec F S1x2x384 .f32) (y17 : Vec F S1x2x384 .f32) (y19 : Vec F S1x2x384 .f32) (y21 : Vec F S1x2x384 .f32) (xs0 : Vec F S2048x256 .bf16) (xs1 : Vec F S2048x256 .bf16) (xs2 : Vec F S256x2048 .bf16) :
    Σ' (L13 : List (View.Piece (Elt F) S1x384x2048 .bf16)), Σ' (L14 : List (View.Piece (Elt F) S1x2x384 .f32)), Σ' (L15 : List (View.Piece (Elt F) S1x2x384 .f32)), Σ' (L16 : List (View.Piece (Elt F) S1x1x384x256 .i8)), Σ' (L17 : List (View.Piece (Elt F) S1x2x384 .f32)), Σ' (L18 : List (View.Piece (Elt F) S1x384x2048 .i8)), Σ' (L19 : List (View.Piece (Elt F) S1x2x384 .f32)), Σ' (L20 : List (View.Piece (Elt F) S1x384x256 .i8)), Σ' (L21 : List (View.Piece (Elt F) S1x2x384 .f32)), Σ' (L22 : List (View.Piece (Elt F) S1x1x384x256 .f32)), Σ' (L23 : List (View.Piece (Elt F) S1x384x256 .f32)), Σ' (L24 : List (View.Piece (Elt F) S1x384x256 .f32)), Σ' (L25 : List (View.Piece (Elt F) S1x384x2048 .f32)), Σ' (LS0 : List (View.Piece (Elt F) S2048x256 .bf16)), Σ' (LS1 : List (View.Piece (Elt F) S2048x256 .bf16)), { LS2 : List (View.Piece (Elt F) S256x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare y14 ∗ owns (c : Thread nD τ) arg17 fullShare y15 ∗ (∃ d, owns (c : Thread nD τ) arg18 fullShare d) ∗ owns (c : Thread nD τ) arg19 fullShare y17 ∗ (∃ d, owns (c : Thread nD τ) arg20 fullShare d) ∗ owns (c : Thread nD τ) arg21 fullShare y19 ∗ (∃ d, owns (c : Thread nD τ) arg22 fullShare d) ∗ owns (c : Thread nD τ) arg23 fullShare y21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xs0 ∗ owns (c : Thread nD τ) arg29 fullShare xs1 ∗ owns (c : Thread nD τ) arg30 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (arg16.view.loc (c : Thread nD τ) ↦[arg16.view.set]{fullShare} arg16.view.writes (Elt F) (harg16.unread y14) L14) ∗ (arg17.view.loc (c : Thread nD τ) ↦[arg17.view.set]{fullShare} arg17.view.writes (Elt F) (harg17.unread y15) L15) ∗ (∃ f, arg18.view.loc (c : Thread nD τ) ↦[arg18.view.set]{fullShare} arg18.view.writes (Elt F) f L16) ∗ (arg19.view.loc (c : Thread nD τ) ↦[arg19.view.set]{fullShare} arg19.view.writes (Elt F) (harg19.unread y17) L17) ∗ (∃ f, arg20.view.loc (c : Thread nD τ) ↦[arg20.view.set]{fullShare} arg20.view.writes (Elt F) f L18) ∗ (arg21.view.loc (c : Thread nD τ) ↦[arg21.view.set]{fullShare} arg21.view.writes (Elt F) (harg21.unread y19) L19) ∗ (∃ f, arg22.view.loc (c : Thread nD τ) ↦[arg22.view.set]{fullShare} arg22.view.writes (Elt F) f L20) ∗ (arg23.view.loc (c : Thread nD τ) ↦[arg23.view.set]{fullShare} arg23.view.writes (Elt F) (harg23.unread y21) L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ owns (c : Thread nD τ) arg28 fullShare xs0 ∗ owns (c : Thread nD τ) arg29 fullShare xs1 ∗ owns (c : Thread nD τ) arg30 fullShare xs2) -∗ K ⟨⟩))
          ⊢ wp frame (wpE (defs₀ (F := F)) Variants.none c none) E (cc0_ple_inject i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, ?_, ?_, ?_, ?_, ?_, ?_, ?_, ?_, ?_, ?_, ?_, [], [], [], fun E K => ?run⟩
  case run =>
    simp only [cc0_ple_inject_eq_skeleton]; unfold cc0_ple_inject_skel
    simp only [k0_part20_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%d16, %f16, -, H16⟩, ⟨%f17, %hf17, H17⟩, ⟨%d18, %f18, -, H18⟩, ⟨%f19, %hf19, H19⟩, ⟨%d20, %f20, -, H20⟩, ⟨%f21, %hf21, H21⟩, ⟨%d22, %f22, -, H22⟩, ⟨%d23, %f23, -, H23⟩, ⟨%d24, %f24, -, H24⟩, ⟨%d25, %f25, -, H25⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg23.eq_unread hf21; obtain rfl := harg21.eq_unread hf19; obtain rfl := harg19.eq_unread hf17; obtain rfl := harg17.eq_unread hf15; obtain rfl := harg16.eq_unread hf14; obtain rfl := harg28.eq_unread hfs0; obtain rfl := harg29.eq_unread hfs1; obtain rfl := harg30.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexact H14
    isplitl [H15]; · iexact H15
    isplitl [H16]; · iexists _; iexact H16
    isplitl [H17]; · iexact H17
    isplitl [H18]; · iexists _; iexact H18
    isplitl [H19]; · iexact H19
    isplitl [H20]; · iexists _; iexact H20
    isplitl [H21]; · iexact H21
    isplitl [H22]; · iexists _; iexact H22
    isplitl [H23]; · iexists _; iexact H23
    isplitl [H24]; · iexists _; iexact H24
    isplitl [H25]; · iexists _; iexact H25
    isplitl [HS0]
    · iexists _; isplitr; · ipureintro; exact harg28.read_unread _
      iexact HS0
    isplitl [HS1]
    · iexists _; isplitr; · ipureintro; exact harg29.read_unread _
      iexact HS1
    iexists _; isplitr; · ipureintro; exact harg30.read_unread _
    iexact HS2

end Cert.KernelIdeal.Val

end
-- ==== Proof.KVal.WA0.lean ====
/- What the body reads back of the weights that it widens in case A. -/
module

public import proofs.«01_k».proof.Proof.KVal.RunB
public import proofs.«01_k».proof.Proof.KVal.BlkX
public import Idealize.ShloMosaic.Lib.Pipeline.ValueKit

@[expose] public section

set_option maxRecDepth 16384

noncomputable section

namespace Cert.KernelIdeal.Val

open Idealize Idealize.ShloMosaic Idealize.ShloMosaic.TcCoe
open Cert.KernelIdeal Cert.KernelIdeal.Gen Cert.Spec

/-- The first weight. -/
theorem v20_eq (c : Dev nD) (arg6 : Memref sig .tc .vmem S1x2048x256 .i8) (harg6 : arg6.IsWhole) (arg28 : Memref sig .tc .vmem S2048x256 .bf16) (x4 : Vec Ideal S1x2048x256 .i8) :
    runA.sl.v20 (F := Ideal) c arg6 harg6 arg28 x4 = k0_pay31 x4 := by
  have h : runA.sl.v20 (F := Ideal) c arg6 harg6 arg28 x4 = arg28.view.readCov [⟨Rect.unit ![0, 0] S2048x256.size inb_S2048x256_S2048x256_0_0, k0_pay31 (View.ld (arg6.view.read (Elt Ideal) (harg6.unread x4)) (Rect.unit ![0, 0, 0] S1x2048x256.size inb_S1x2048x256_S1x2048x256_0_0_0))⟩] (Rect.unit ![0, 0] S2048x256.size inb_S2048x256_S2048x256_0_0).toLoadRect := rfl
  rw [h, View.readCov_unit_lit _ _ _ (by decide), harg6.read_unread, View.ld_unit_lit _ _ (by decide)]
/-- The second. -/
theorem v144_eq (c : Dev nD) (arg10 : Memref sig .tc .vmem S1x2048x256 .i8) (harg10 : arg10.IsWhole) (arg29 : Memref sig .tc .vmem S2048x256 .bf16) (x8 : Vec Ideal S1x2048x256 .i8) :
    runA.sl.v144 (F := Ideal) c arg10 harg10 arg29 x8 = k0_pay32 x8 := by
  have h : runA.sl.v144 (F := Ideal) c arg10 harg10 arg29 x8 = arg29.view.readCov [⟨Rect.unit ![0, 0] S2048x256.size inb_S2048x256_S2048x256_0_0, k0_pay32 (View.ld (arg10.view.read (Elt Ideal) (harg10.unread x8)) (Rect.unit ![0, 0, 0] S1x2048x256.size inb_S1x2048x256_S1x2048x256_0_0_0))⟩] (Rect.unit ![0, 0] S2048x256.size inb_S2048x256_S2048x256_0_0).toLoadRect := rfl
  rw [h, View.readCov_unit_lit _ _ _ (by decide), harg10.read_unread, View.ld_unit_lit _ _ (by decide)]
/-- The third. -/
theorem v194_eq (c : Dev nD) (arg12 : Memref sig .tc .vmem S1x256x2048 .i8) (harg12 : arg12.IsWhole) (arg30 : Memref sig .tc .vmem S256x2048 .bf16) (x10 : Vec Ideal S1x256x2048 .i8) :
    runA.sl.v194 (F := Ideal) c arg12 harg12 arg30 x10 = k0_pay33 x10 := by
  have h : runA.sl.v194 (F := Ideal) c arg12 harg12 arg30 x10 = arg30.view.readCov [⟨Rect.unit ![0, 0] S256x2048.size inb_S256x2048_S256x2048_0_0, k0_pay33 (View.ld (arg12.view.read (Elt Ideal) (harg12.unread x10)) (Rect.unit ![0, 0, 0] S1x256x2048.size inb_S1x256x2048_S1x256x2048_0_0_0))⟩] (Rect.unit ![0, 0] S256x2048.size inb_S256x2048_S256x2048_0_0).toLoadRect := rfl
  rw [h, View.readCov_unit_lit _ _ _ (by decide), harg12.read_unread, View.ld_unit_lit _ _ (by decide)]

end Cert.KernelIdeal.Val
-- ==== Proof.KVal.WA1.lean ====
/- The pieces that the body's run writes in case A, as the values of `Cert.KernelIdeal.Val.Blk`. -/
module

public import proofs.«01_k».proof.Proof.KVal.RunB
public import proofs.«01_k».proof.Proof.KVal.BlkX
public import proofs.«01_k».proof.Proof.KVal.WA0
public import Idealize.ShloMosaic.Lib.Pipeline.ValueKit

@[expose] public section

set_option maxRecDepth 16384

noncomputable section

namespace Cert.KernelIdeal.Val

open Idealize Idealize.ShloMosaic Idealize.ShloMosaic.TcCoe
open Cert.KernelIdeal Cert.KernelIdeal.Gen Cert.Spec

variable (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : cond0_0 i) (hc1 : cond0_1 i) (hc2 : ¬cond0_2 i)
    (x0 : Vec Ideal S768x2048 .i8) (x1 : Vec Ideal S768x128 .f32) (x2 : Vec Ideal S1x384x128 .i8) (x3 : Vec Ideal S768x128 .f32) (x4 : Vec Ideal S1x2048x256 .i8) (x5 : Vec Ideal S35x256 .f32) (x6 : Vec Ideal S1x256 .f32) (x7 : Vec Ideal S1x384x2048 .bf16) (x8 : Vec Ideal S1x2048x256 .i8) (x9 : Vec Ideal S35x256 .f32) (x10 : Vec Ideal S1x256x2048 .i8) (x11 : Vec Ideal S35x2048 .f32) (x12 : Vec Ideal S35x2048 .f32) (y14 : Vec Ideal S1x2x384 .f32) (y15 : Vec Ideal S1x2x384 .f32) (y17 : Vec Ideal S1x2x384 .f32) (y19 : Vec Ideal S1x2x384 .f32) (y21 : Vec Ideal S1x2x384 .f32)

set_option maxHeartbeats 2000000 in
/-- The pieces of output window 13. -/
theorem LA13 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).1 =
      [⟨Rect.unit ![0, 256, 0] S1x128x2048.size inb_S1x384x2048_S1x128x2048_0_256_0, Blk.houtP (blkX i x0 x1 x2 x3 x5 x6 x7 x9 x11 x12 (k0_pay31 x4) (k0_pay32 x8) (k0_pay33 x10) 2)⟩,
        ⟨Rect.unit ![0, 128, 0] S1x128x2048.size inb_S1x384x2048_S1x128x2048_0_128_0, Blk.houtP (blkX i x0 x1 x2 x3 x5 x6 x7 x9 x11 x12 (k0_pay31 x4) (k0_pay32 x8) (k0_pay33 x10) 1)⟩,
        ⟨Rect.unit ![0, 0, 0] S1x128x2048.size inb_S1x384x2048_S1x128x2048_0_0_0, Blk.houtP (blkX i x0 x1 x2 x3 x5 x6 x7 x9 x11 x12 (k0_pay31 x4) (k0_pay32 x8) (k0_pay33 x10) 0)⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).1 =
      [⟨Rect.unit ![0, 256, 0] S1x128x2048.size inb_S1x384x2048_S1x128x2048_0_256_0, Blk.houtP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2)⟩,
        ⟨Rect.unit ![0, 128, 0] S1x128x2048.size inb_S1x384x2048_S1x128x2048_0_128_0, Blk.houtP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1)⟩,
        ⟨Rect.unit ![0, 0, 0] S1x128x2048.size inb_S1x384x2048_S1x128x2048_0_0_0, Blk.houtP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0)⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

end Cert.KernelIdeal.Val
-- ==== Proof.KVal.WA2.lean ====
/- The pieces that the body's run writes in case A, as the values of `Cert.KernelIdeal.Val.Blk`. -/
module

public import proofs.«01_k».proof.Proof.KVal.RunB
public import proofs.«01_k».proof.Proof.KVal.BlkX
public import proofs.«01_k».proof.Proof.KVal.WA0
public import Idealize.ShloMosaic.Lib.Pipeline.ValueKit

@[expose] public section

set_option maxRecDepth 16384

noncomputable section

namespace Cert.KernelIdeal.Val

open Idealize Idealize.ShloMosaic Idealize.ShloMosaic.TcCoe
open Cert.KernelIdeal Cert.KernelIdeal.Gen Cert.Spec

variable (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : cond0_0 i) (hc1 : cond0_1 i) (hc2 : ¬cond0_2 i)
    (x0 : Vec Ideal S768x2048 .i8) (x1 : Vec Ideal S768x128 .f32) (x2 : Vec Ideal S1x384x128 .i8) (x3 : Vec Ideal S768x128 .f32) (x4 : Vec Ideal S1x2048x256 .i8) (x5 : Vec Ideal S35x256 .f32) (x6 : Vec Ideal S1x256 .f32) (x7 : Vec Ideal S1x384x2048 .bf16) (x8 : Vec Ideal S1x2048x256 .i8) (x9 : Vec Ideal S35x256 .f32) (x10 : Vec Ideal S1x256x2048 .i8) (x11 : Vec Ideal S35x2048 .f32) (x12 : Vec Ideal S35x2048 .f32) (y14 : Vec Ideal S1x2x384 .f32) (y15 : Vec Ideal S1x2x384 .f32) (y17 : Vec Ideal S1x2x384 .f32) (y19 : Vec Ideal S1x2x384 .f32) (y21 : Vec Ideal S1x2x384 .f32)

set_option maxHeartbeats 2000000 in
/-- The pieces of output window 15. -/
theorem LA15 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.1 =
      [⟨Rect.unit ![0, 0, 256] S1x1x128.size inb_S1x2x384_S1x1x128_0_0_256, k0_pay15 (Blk.postR (blkX i x0 x1 x2 x3 x5 x6 x7 x9 x11 x12 (k0_pay31 x4) (k0_pay32 x8) (k0_pay33 x10) 2))⟩,
        ⟨Rect.unit ![0, 0, 128] S1x1x128.size inb_S1x2x384_S1x1x128_0_0_128, k0_pay15 (Blk.postR (blkX i x0 x1 x2 x3 x5 x6 x7 x9 x11 x12 (k0_pay31 x4) (k0_pay32 x8) (k0_pay33 x10) 1))⟩,
        ⟨Rect.unit ![0, 0, 0] S1x1x128.size inb_S1x2x384_S1x1x128_0_0_0, k0_pay15 (Blk.postR (blkX i x0 x1 x2 x3 x5 x6 x7 x9 x11 x12 (k0_pay31 x4) (k0_pay32 x8) (k0_pay33 x10) 0))⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.1 =
      [⟨Rect.unit ![0, 0, 256] S1x1x128.size inb_S1x2x384_S1x1x128_0_0_256, k0_pay15 (Blk.postR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2))⟩,
        ⟨Rect.unit ![0, 0, 128] S1x1x128.size inb_S1x2x384_S1x1x128_0_0_128, k0_pay15 (Blk.postR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1))⟩,
        ⟨Rect.unit ![0, 0, 0] S1x1x128.size inb_S1x2x384_S1x1x128_0_0_0, k0_pay15 (Blk.postR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0))⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 25. -/
theorem LA25 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.2.1 =
      [⟨Rect.unit ![0, 256, 0] S1x128x2048.size inb_S1x384x2048_S1x128x2048_0_256_0, Blk.yP (blkX i x0 x1 x2 x3 x5 x6 x7 x9 x11 x12 (k0_pay31 x4) (k0_pay32 x8) (k0_pay33 x10) 2)⟩,
        ⟨Rect.unit ![0, 128, 0] S1x128x2048.size inb_S1x384x2048_S1x128x2048_0_128_0, Blk.yP (blkX i x0 x1 x2 x3 x5 x6 x7 x9 x11 x12 (k0_pay31 x4) (k0_pay32 x8) (k0_pay33 x10) 1)⟩,
        ⟨Rect.unit ![0, 0, 0] S1x128x2048.size inb_S1x384x2048_S1x128x2048_0_0_0, Blk.yP (blkX i x0 x1 x2 x3 x5 x6 x7 x9 x11 x12 (k0_pay31 x4) (k0_pay32 x8) (k0_pay33 x10) 0)⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.2.1 =
      [⟨Rect.unit ![0, 256, 0] S1x128x2048.size inb_S1x384x2048_S1x128x2048_0_256_0, Blk.yP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2)⟩,
        ⟨Rect.unit ![0, 128, 0] S1x128x2048.size inb_S1x384x2048_S1x128x2048_0_128_0, Blk.yP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1)⟩,
        ⟨Rect.unit ![0, 0, 0] S1x128x2048.size inb_S1x384x2048_S1x128x2048_0_0_0, Blk.yP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0)⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 21. -/
theorem LA21 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.1 =
      [⟨Rect.unit ![0, 0, 256] S1x1x128.size inb_S1x2x384_S1x1x128_0_0_256, k0_pay15 (Blk.tsR (blkX i x0 x1 x2 x3 x5 x6 x7 x9 x11 x12 (k0_pay31 x4) (k0_pay32 x8) (k0_pay33 x10) 2))⟩,
        ⟨Rect.unit ![0, 0, 128] S1x1x128.size inb_S1x2x384_S1x1x128_0_0_128, k0_pay15 (Blk.tsR (blkX i x0 x1 x2 x3 x5 x6 x7 x9 x11 x12 (k0_pay31 x4) (k0_pay32 x8) (k0_pay33 x10) 1))⟩,
        ⟨Rect.unit ![0, 0, 0] S1x1x128.size inb_S1x2x384_S1x1x128_0_0_0, k0_pay15 (Blk.tsR (blkX i x0 x1 x2 x3 x5 x6 x7 x9 x11 x12 (k0_pay31 x4) (k0_pay32 x8) (k0_pay33 x10) 0))⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.1 =
      [⟨Rect.unit ![0, 0, 256] S1x1x128.size inb_S1x2x384_S1x1x128_0_0_256, k0_pay15 (Blk.tsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2))⟩,
        ⟨Rect.unit ![0, 0, 128] S1x1x128.size inb_S1x2x384_S1x1x128_0_0_128, k0_pay15 (Blk.tsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1))⟩,
        ⟨Rect.unit ![0, 0, 0] S1x1x128.size inb_S1x2x384_S1x1x128_0_0_0, k0_pay15 (Blk.tsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0))⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

end Cert.KernelIdeal.Val
-- ==== Proof.KVal.WA3.lean ====
/- The pieces that the body's run writes in case A, as the values of `Cert.KernelIdeal.Val.Blk`. -/
module

public import proofs.«01_k».proof.Proof.KVal.RunB
public import proofs.«01_k».proof.Proof.KVal.BlkX
public import proofs.«01_k».proof.Proof.KVal.WA0
public import Idealize.ShloMosaic.Lib.Pipeline.ValueKit

@[expose] public section

set_option maxRecDepth 16384

noncomputable section

namespace Cert.KernelIdeal.Val

open Idealize Idealize.ShloMosaic Idealize.ShloMosaic.TcCoe
open Cert.KernelIdeal Cert.KernelIdeal.Gen Cert.Spec

variable (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : cond0_0 i) (hc1 : cond0_1 i) (hc2 : ¬cond0_2 i)
    (x0 : Vec Ideal S768x2048 .i8) (x1 : Vec Ideal S768x128 .f32) (x2 : Vec Ideal S1x384x128 .i8) (x3 : Vec Ideal S768x128 .f32) (x4 : Vec Ideal S1x2048x256 .i8) (x5 : Vec Ideal S35x256 .f32) (x6 : Vec Ideal S1x256 .f32) (x7 : Vec Ideal S1x384x2048 .bf16) (x8 : Vec Ideal S1x2048x256 .i8) (x9 : Vec Ideal S35x256 .f32) (x10 : Vec Ideal S1x256x2048 .i8) (x11 : Vec Ideal S35x2048 .f32) (x12 : Vec Ideal S35x2048 .f32) (y14 : Vec Ideal S1x2x384 .f32) (y15 : Vec Ideal S1x2x384 .f32) (y17 : Vec Ideal S1x2x384 .f32) (y19 : Vec Ideal S1x2x384 .f32) (y21 : Vec Ideal S1x2x384 .f32)

set_option maxHeartbeats 2000000 in
/-- The pieces of output window 14. -/
theorem LA14 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.1 =
      [⟨Rect.unit ![0, 0, 256] S1x1x128.size inb_S1x2x384_S1x1x128_0_0_256, k0_pay15 (Blk.segR (blkX i x0 x1 x2 x3 x5 x6 x7 x9 x11 x12 (k0_pay31 x4) (k0_pay32 x8) (k0_pay33 x10) 2))⟩,
        ⟨Rect.unit ![0, 0, 128] S1x1x128.size inb_S1x2x384_S1x1x128_0_0_128, k0_pay15 (Blk.segR (blkX i x0 x1 x2 x3 x5 x6 x7 x9 x11 x12 (k0_pay31 x4) (k0_pay32 x8) (k0_pay33 x10) 1))⟩,
        ⟨Rect.unit ![0, 0, 0] S1x1x128.size inb_S1x2x384_S1x1x128_0_0_0, k0_pay15 (Blk.segR (blkX i x0 x1 x2 x3 x5 x6 x7 x9 x11 x12 (k0_pay31 x4) (k0_pay32 x8) (k0_pay33 x10) 0))⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.1 =
      [⟨Rect.unit ![0, 0, 256] S1x1x128.size inb_S1x2x384_S1x1x128_0_0_256, k0_pay15 (Blk.segR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2))⟩,
        ⟨Rect.unit ![0, 0, 128] S1x1x128.size inb_S1x2x384_S1x1x128_0_0_128, k0_pay15 (Blk.segR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1))⟩,
        ⟨Rect.unit ![0, 0, 0] S1x1x128.size inb_S1x2x384_S1x1x128_0_0_0, k0_pay15 (Blk.segR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0))⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 16. -/
theorem LA16 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.1 =
      [⟨Rect.unit ![0, 0, 256, 0] S1x1x128x256.size inb_S1x1x384x256_S1x1x128x256_0_0_256_0, Blk.ccP (blkX i x0 x1 x2 x3 x5 x6 x7 x9 x11 x12 (k0_pay31 x4) (k0_pay32 x8) (k0_pay33 x10) 2)⟩,
        ⟨Rect.unit ![0, 0, 128, 0] S1x1x128x256.size inb_S1x1x384x256_S1x1x128x256_0_0_128_0, Blk.ccP (blkX i x0 x1 x2 x3 x5 x6 x7 x9 x11 x12 (k0_pay31 x4) (k0_pay32 x8) (k0_pay33 x10) 1)⟩,
        ⟨Rect.unit ![0, 0, 0, 0] S1x1x128x256.size inb_S1x1x384x256_S1x1x128x256_0_0_0_0, Blk.ccP (blkX i x0 x1 x2 x3 x5 x6 x7 x9 x11 x12 (k0_pay31 x4) (k0_pay32 x8) (k0_pay33 x10) 0)⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.1 =
      [⟨Rect.unit ![0, 0, 256, 0] S1x1x128x256.size inb_S1x1x384x256_S1x1x128x256_0_0_256_0, Blk.ccP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2)⟩,
        ⟨Rect.unit ![0, 0, 128, 0] S1x1x128x256.size inb_S1x1x384x256_S1x1x128x256_0_0_128_0, Blk.ccP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1)⟩,
        ⟨Rect.unit ![0, 0, 0, 0] S1x1x128x256.size inb_S1x1x384x256_S1x1x128x256_0_0_0_0, Blk.ccP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0)⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 17. -/
theorem LA17 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.1 =
      [⟨Rect.unit ![0, 0, 256] S1x1x128.size inb_S1x2x384_S1x1x128_0_0_256, k0_pay15 (Blk.csR (blkX i x0 x1 x2 x3 x5 x6 x7 x9 x11 x12 (k0_pay31 x4) (k0_pay32 x8) (k0_pay33 x10) 2))⟩,
        ⟨Rect.unit ![0, 0, 128] S1x1x128.size inb_S1x2x384_S1x1x128_0_0_128, k0_pay15 (Blk.csR (blkX i x0 x1 x2 x3 x5 x6 x7 x9 x11 x12 (k0_pay31 x4) (k0_pay32 x8) (k0_pay33 x10) 1))⟩,
        ⟨Rect.unit ![0, 0, 0] S1x1x128.size inb_S1x2x384_S1x1x128_0_0_0, k0_pay15 (Blk.csR (blkX i x0 x1 x2 x3 x5 x6 x7 x9 x11 x12 (k0_pay31 x4) (k0_pay32 x8) (k0_pay33 x10) 0))⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.1 =
      [⟨Rect.unit ![0, 0, 256] S1x1x128.size inb_S1x2x384_S1x1x128_0_0_256, k0_pay15 (Blk.csR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2))⟩,
        ⟨Rect.unit ![0, 0, 128] S1x1x128.size inb_S1x2x384_S1x1x128_0_0_128, k0_pay15 (Blk.csR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1))⟩,
        ⟨Rect.unit ![0, 0, 0] S1x1x128.size inb_S1x2x384_S1x1x128_0_0_0, k0_pay15 (Blk.csR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0))⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 18. -/
theorem LA18 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.1 =
      [⟨Rect.unit ![0, 256, 0] S1x128x2048.size inb_S1x384x2048_S1x128x2048_0_256_0, Blk.hcP (blkX i x0 x1 x2 x3 x5 x6 x7 x9 x11 x12 (k0_pay31 x4) (k0_pay32 x8) (k0_pay33 x10) 2)⟩,
        ⟨Rect.unit ![0, 128, 0] S1x128x2048.size inb_S1x384x2048_S1x128x2048_0_128_0, Blk.hcP (blkX i x0 x1 x2 x3 x5 x6 x7 x9 x11 x12 (k0_pay31 x4) (k0_pay32 x8) (k0_pay33 x10) 1)⟩,
        ⟨Rect.unit ![0, 0, 0] S1x128x2048.size inb_S1x384x2048_S1x128x2048_0_0_0, Blk.hcP (blkX i x0 x1 x2 x3 x5 x6 x7 x9 x11 x12 (k0_pay31 x4) (k0_pay32 x8) (k0_pay33 x10) 0)⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.1 =
      [⟨Rect.unit ![0, 256, 0] S1x128x2048.size inb_S1x384x2048_S1x128x2048_0_256_0, Blk.hcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2)⟩,
        ⟨Rect.unit ![0, 128, 0] S1x128x2048.size inb_S1x384x2048_S1x128x2048_0_128_0, Blk.hcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1)⟩,
        ⟨Rect.unit ![0, 0, 0] S1x128x2048.size inb_S1x384x2048_S1x128x2048_0_0_0, Blk.hcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0)⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 19. -/
theorem LA19 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.1 =
      [⟨Rect.unit ![0, 0, 256] S1x1x128.size inb_S1x2x384_S1x1x128_0_0_256, k0_pay15 (Blk.hsR (blkX i x0 x1 x2 x3 x5 x6 x7 x9 x11 x12 (k0_pay31 x4) (k0_pay32 x8) (k0_pay33 x10) 2))⟩,
        ⟨Rect.unit ![0, 0, 128] S1x1x128.size inb_S1x2x384_S1x1x128_0_0_128, k0_pay15 (Blk.hsR (blkX i x0 x1 x2 x3 x5 x6 x7 x9 x11 x12 (k0_pay31 x4) (k0_pay32 x8) (k0_pay33 x10) 1))⟩,
        ⟨Rect.unit ![0, 0, 0] S1x1x128.size inb_S1x2x384_S1x1x128_0_0_0, k0_pay15 (Blk.hsR (blkX i x0 x1 x2 x3 x5 x6 x7 x9 x11 x12 (k0_pay31 x4) (k0_pay32 x8) (k0_pay33 x10) 0))⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.1 =
      [⟨Rect.unit ![0, 0, 256] S1x1x128.size inb_S1x2x384_S1x1x128_0_0_256, k0_pay15 (Blk.hsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2))⟩,
        ⟨Rect.unit ![0, 0, 128] S1x1x128.size inb_S1x2x384_S1x1x128_0_0_128, k0_pay15 (Blk.hsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1))⟩,
        ⟨Rect.unit ![0, 0, 0] S1x1x128.size inb_S1x2x384_S1x1x128_0_0_0, k0_pay15 (Blk.hsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0))⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 20. -/
theorem LA20 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.1 =
      [⟨Rect.unit ![0, 256, 0] S1x128x256.size inb_S1x384x256_S1x128x256_0_256_0, Blk.tcP (blkX i x0 x1 x2 x3 x5 x6 x7 x9 x11 x12 (k0_pay31 x4) (k0_pay32 x8) (k0_pay33 x10) 2)⟩,
        ⟨Rect.unit ![0, 128, 0] S1x128x256.size inb_S1x384x256_S1x128x256_0_128_0, Blk.tcP (blkX i x0 x1 x2 x3 x5 x6 x7 x9 x11 x12 (k0_pay31 x4) (k0_pay32 x8) (k0_pay33 x10) 1)⟩,
        ⟨Rect.unit ![0, 0, 0] S1x128x256.size inb_S1x384x256_S1x128x256_0_0_0, Blk.tcP (blkX i x0 x1 x2 x3 x5 x6 x7 x9 x11 x12 (k0_pay31 x4) (k0_pay32 x8) (k0_pay33 x10) 0)⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.1 =
      [⟨Rect.unit ![0, 256, 0] S1x128x256.size inb_S1x384x256_S1x128x256_0_256_0, Blk.tcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2)⟩,
        ⟨Rect.unit ![0, 128, 0] S1x128x256.size inb_S1x384x256_S1x128x256_0_128_0, Blk.tcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1)⟩,
        ⟨Rect.unit ![0, 0, 0] S1x128x256.size inb_S1x384x256_S1x128x256_0_0_0, Blk.tcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0)⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 22. -/
theorem LA22 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.1 =
      [⟨Rect.unit ![0, 0, 256, 0] S1x1x128x256.size inb_S1x1x384x256_S1x1x128x256_0_0_256_0, Blk.pP (blkX i x0 x1 x2 x3 x5 x6 x7 x9 x11 x12 (k0_pay31 x4) (k0_pay32 x8) (k0_pay33 x10) 2)⟩,
        ⟨Rect.unit ![0, 0, 128, 0] S1x1x128x256.size inb_S1x1x384x256_S1x1x128x256_0_0_128_0, Blk.pP (blkX i x0 x1 x2 x3 x5 x6 x7 x9 x11 x12 (k0_pay31 x4) (k0_pay32 x8) (k0_pay33 x10) 1)⟩,
        ⟨Rect.unit ![0, 0, 0, 0] S1x1x128x256.size inb_S1x1x384x256_S1x1x128x256_0_0_0_0, Blk.pP (blkX i x0 x1 x2 x3 x5 x6 x7 x9 x11 x12 (k0_pay31 x4) (k0_pay32 x8) (k0_pay33 x10) 0)⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.1 =
      [⟨Rect.unit ![0, 0, 256, 0] S1x1x128x256.size inb_S1x1x384x256_S1x1x128x256_0_0_256_0, Blk.pP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2)⟩,
        ⟨Rect.unit ![0, 0, 128, 0] S1x1x128x256.size inb_S1x1x384x256_S1x1x128x256_0_0_128_0, Blk.pP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1)⟩,
        ⟨Rect.unit ![0, 0, 0, 0] S1x1x128x256.size inb_S1x1x384x256_S1x1x128x256_0_0_0_0, Blk.pP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0)⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 23. -/
theorem LA23 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.1 =
      [⟨Rect.unit ![0, 256, 0] S1x128x256.size inb_S1x384x256_S1x128x256_0_256_0, Blk.glP (blkX i x0 x1 x2 x3 x5 x6 x7 x9 x11 x12 (k0_pay31 x4) (k0_pay32 x8) (k0_pay33 x10) 2)⟩,
        ⟨Rect.unit ![0, 128, 0] S1x128x256.size inb_S1x384x256_S1x128x256_0_128_0, Blk.glP (blkX i x0 x1 x2 x3 x5 x6 x7 x9 x11 x12 (k0_pay31 x4) (k0_pay32 x8) (k0_pay33 x10) 1)⟩,
        ⟨Rect.unit ![0, 0, 0] S1x128x256.size inb_S1x384x256_S1x128x256_0_0_0, Blk.glP (blkX i x0 x1 x2 x3 x5 x6 x7 x9 x11 x12 (k0_pay31 x4) (k0_pay32 x8) (k0_pay33 x10) 0)⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.1 =
      [⟨Rect.unit ![0, 256, 0] S1x128x256.size inb_S1x384x256_S1x128x256_0_256_0, Blk.glP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2)⟩,
        ⟨Rect.unit ![0, 128, 0] S1x128x256.size inb_S1x384x256_S1x128x256_0_128_0, Blk.glP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1)⟩,
        ⟨Rect.unit ![0, 0, 0] S1x128x256.size inb_S1x384x256_S1x128x256_0_0_0, Blk.glP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0)⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

set_option maxHeartbeats 2000000 in
/-- The pieces of output window 24. -/
theorem LA24 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.1 =
      [⟨Rect.unit ![0, 256, 0] S1x128x256.size inb_S1x384x256_S1x128x256_0_256_0, Blk.tP (blkX i x0 x1 x2 x3 x5 x6 x7 x9 x11 x12 (k0_pay31 x4) (k0_pay32 x8) (k0_pay33 x10) 2)⟩,
        ⟨Rect.unit ![0, 128, 0] S1x128x256.size inb_S1x384x256_S1x128x256_0_128_0, Blk.tP (blkX i x0 x1 x2 x3 x5 x6 x7 x9 x11 x12 (k0_pay31 x4) (k0_pay32 x8) (k0_pay33 x10) 1)⟩,
        ⟨Rect.unit ![0, 0, 0] S1x128x256.size inb_S1x384x256_S1x128x256_0_0_0, Blk.tP (blkX i x0 x1 x2 x3 x5 x6 x7 x9 x11 x12 (k0_pay31 x4) (k0_pay32 x8) (k0_pay33 x10) 0)⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.1 =
      [⟨Rect.unit ![0, 256, 0] S1x128x256.size inb_S1x384x256_S1x128x256_0_256_0, Blk.tP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 2)⟩,
        ⟨Rect.unit ![0, 128, 0] S1x128x256.size inb_S1x384x256_S1x128x256_0_128_0, Blk.tP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 1)⟩,
        ⟨Rect.unit ![0, 0, 0] S1x128x256.size inb_S1x384x256_S1x128x256_0_0_0, Blk.tP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (runA.sl.v20 c arg6 harg6 arg28 x4) (runA.sl.v144 c arg10 harg10 arg29 x8) (runA.sl.v194 c arg12 harg12 arg30 x10) 0)⟩] := rfl
  rw [h]
  simp only [harg2.read_unread, harg3.read_unread, harg4.read_unread, harg5.read_unread, harg7.read_unread, harg8.read_unread, harg9.read_unread, harg11.read_unread, harg13.read_unread, harg14.read_unread, v20_eq, v144_eq, v194_eq]

end Cert.KernelIdeal.Val
-- ==== Proof.KVal.WB1.lean ====
/- The pieces that the body's run writes in case B, as the values of `Cert.KernelIdeal.Val.Blk`. -/
module

public import proofs.«01_k».proof.Proof.KVal.RunB
public import proofs.«01_k».proof.Proof.KVal.BlkX
public import Idealize.ShloMosaic.Lib.Pipeline.ValueKit

@[expose] public section

set_option maxRecDepth 16384

noncomputable section

namespace Cert.KernelIdeal.Val

open Idealize Idealize.ShloMosaic Idealize.ShloMosaic.TcCoe
open Cert.KernelIdeal Cert.KernelIdeal.Gen Cert.Spec

variable (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : ¬cond0_0 i) (hc1 : ¬cond0_1 i) (hc2 : cond0_2 i)
    (x0 : Vec Ideal S768x2048 .i8) (x1 : Vec Ideal S768x128 .f32) (x2 : Vec Ideal S1x384x128 .i8) (x3 : Vec Ideal S768x128 .f32) (x4 : Vec Ideal S1x2048x256 .i8) (x5 : Vec Ideal S35x256 .f32) (x6 : Vec Ideal S1x256 .f32) (x7 : Vec Ideal S1x384x2048 .bf16) (x8 : Vec Ideal S1x2048x256 .i8) (x9 : Vec Ideal S35x256 .f32) (x10 : Vec Ideal S1x256x2048 .i8) (x11 : Vec Ideal S35x2048 .f32) (x12 : Vec Ideal S35x2048 .f32) (y14 : Vec Ideal S1x2x384 .f32) (y15 : Vec Ideal S1x2x384 .f32) (y17 : Vec Ideal S1x2x384 .f32) (y19 : Vec Ideal S1x2x384 .f32) (y21 : Vec Ideal S1x2x384 .f32) (xs0 : Vec Ideal S2048x256 .bf16) (xs1 : Vec Ideal S2048x256 .bf16) (xs2 : Vec Ideal S256x2048 .bf16)

set_option maxHeartbeats 2000000 in
/-- The pieces of output window 13. -/
theorem LB13 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).1 =
      [⟨Rect.unit ![0, 256, 0] S1x128x2048.size inb_S1x384x2048_S1x128x2048_0_256_0, Blk.houtP (blkX i x0 x1 x2 x3 x5 x6 x7 x9 x11 x12 xs0 xs1 xs2 2)⟩,
        ⟨Rect.unit ![0, 128, 0] S1x128x2048.size inb_S1x384x2048_S1x128x2048_0_128_0, Blk.houtP (blkX i x0 x1 x2 x3 x5 x6 x7 x9 x11 x12 xs0 xs1 xs2 1)⟩,
        ⟨Rect.unit ![0, 0, 0] S1x128x2048.size inb_S1x384x2048_S1x128x2048_0_0_0, Blk.houtP (blkX i x0 x1 x2 x3 x5 x6 x7 x9 x11 x12 xs0 xs1 xs2 0)⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).1 =
      [⟨Rect.unit ![0, 256, 0] S1x128x2048.size inb_S1x384x2048_S1x128x2048_0_256_0, Blk.houtP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2)⟩,
        ⟨Rect.unit ![0, 128, 0] S1x128x2048.size inb_S1x384x2048_S1x128x2048_0_128_0, Blk.houtP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1)⟩,
        ⟨Rect.unit ![0, 0, 0] S1x128x2048.size inb_S1x384x2048_S1x128x2048_0_0_0, Blk.houtP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0)⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

end Cert.KernelIdeal.Val
-- ==== Proof.KVal.WB2.lean ====
/- The pieces that the body's run writes in case B, as the values of `Cert.KernelIdeal.Val.Blk`. -/
module

public import proofs.«01_k».proof.Proof.KVal.RunB
public import proofs.«01_k».proof.Proof.KVal.BlkX
public import Idealize.ShloMosaic.Lib.Pipeline.ValueKit

@[expose] public section

set_option maxRecDepth 16384

noncomputable section

namespace Cert.KernelIdeal.Val

open Idealize Idealize.ShloMosaic Idealize.ShloMosaic.TcCoe
open Cert.KernelIdeal Cert.KernelIdeal.Gen Cert.Spec

variable (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : ¬cond0_0 i) (hc1 : ¬cond0_1 i) (hc2 : cond0_2 i)
    (x0 : Vec Ideal S768x2048 .i8) (x1 : Vec Ideal S768x128 .f32) (x2 : Vec Ideal S1x384x128 .i8) (x3 : Vec Ideal S768x128 .f32) (x4 : Vec Ideal S1x2048x256 .i8) (x5 : Vec Ideal S35x256 .f32) (x6 : Vec Ideal S1x256 .f32) (x7 : Vec Ideal S1x384x2048 .bf16) (x8 : Vec Ideal S1x2048x256 .i8) (x9 : Vec Ideal S35x256 .f32) (x10 : Vec Ideal S1x256x2048 .i8) (x11 : Vec Ideal S35x2048 .f32) (x12 : Vec Ideal S35x2048 .f32) (y14 : Vec Ideal S1x2x384 .f32) (y15 : Vec Ideal S1x2x384 .f32) (y17 : Vec Ideal S1x2x384 .f32) (y19 : Vec Ideal S1x2x384 .f32) (y21 : Vec Ideal S1x2x384 .f32) (xs0 : Vec Ideal S2048x256 .bf16) (xs1 : Vec Ideal S2048x256 .bf16) (xs2 : Vec Ideal S256x2048 .bf16)

set_option maxHeartbeats 2000000 in
/-- The pieces of output window 15. -/
theorem LB15 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.1 =
      [⟨Rect.unit ![0, 1, 256] S1x1x128.size inb_S1x2x384_S1x1x128_0_1_256, k0_pay15 (Blk.postR (blkX i x0 x1 x2 x3 x5 x6 x7 x9 x11 x12 xs0 xs1 xs2 2))⟩,
        ⟨Rect.unit ![0, 1, 128] S1x1x128.size inb_S1x2x384_S1x1x128_0_1_128, k0_pay15 (Blk.postR (blkX i x0 x1 x2 x3 x5 x6 x7 x9 x11 x12 xs0 xs1 xs2 1))⟩,
        ⟨Rect.unit ![0, 1, 0] S1x1x128.size inb_S1x2x384_S1x1x128_0_1_0, k0_pay15 (Blk.postR (blkX i x0 x1 x2 x3 x5 x6 x7 x9 x11 x12 xs0 xs1 xs2 0))⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.1 =
      [⟨Rect.unit ![0, 1, 256] S1x1x128.size inb_S1x2x384_S1x1x128_0_1_256, k0_pay15 (Blk.postR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2))⟩,
        ⟨Rect.unit ![0, 1, 128] S1x1x128.size inb_S1x2x384_S1x1x128_0_1_128, k0_pay15 (Blk.postR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1))⟩,
        ⟨Rect.unit ![0, 1, 0] S1x1x128.size inb_S1x2x384_S1x1x128_0_1_0, k0_pay15 (Blk.postR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0))⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 25. -/
theorem LB25 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.2.2.2.2.1 =
      [⟨Rect.unit ![0, 256, 0] S1x128x2048.size inb_S1x384x2048_S1x128x2048_0_256_0, Blk.yP (blkX i x0 x1 x2 x3 x5 x6 x7 x9 x11 x12 xs0 xs1 xs2 2)⟩,
        ⟨Rect.unit ![0, 128, 0] S1x128x2048.size inb_S1x384x2048_S1x128x2048_0_128_0, Blk.yP (blkX i x0 x1 x2 x3 x5 x6 x7 x9 x11 x12 xs0 xs1 xs2 1)⟩,
        ⟨Rect.unit ![0, 0, 0] S1x128x2048.size inb_S1x384x2048_S1x128x2048_0_0_0, Blk.yP (blkX i x0 x1 x2 x3 x5 x6 x7 x9 x11 x12 xs0 xs1 xs2 0)⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.2.2.2.2.1 =
      [⟨Rect.unit ![0, 256, 0] S1x128x2048.size inb_S1x384x2048_S1x128x2048_0_256_0, Blk.yP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2)⟩,
        ⟨Rect.unit ![0, 128, 0] S1x128x2048.size inb_S1x384x2048_S1x128x2048_0_128_0, Blk.yP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1)⟩,
        ⟨Rect.unit ![0, 0, 0] S1x128x2048.size inb_S1x384x2048_S1x128x2048_0_0_0, Blk.yP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0)⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 21. -/
theorem LB21 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.1 =
      [⟨Rect.unit ![0, 1, 256] S1x1x128.size inb_S1x2x384_S1x1x128_0_1_256, k0_pay15 (Blk.tsR (blkX i x0 x1 x2 x3 x5 x6 x7 x9 x11 x12 xs0 xs1 xs2 2))⟩,
        ⟨Rect.unit ![0, 1, 128] S1x1x128.size inb_S1x2x384_S1x1x128_0_1_128, k0_pay15 (Blk.tsR (blkX i x0 x1 x2 x3 x5 x6 x7 x9 x11 x12 xs0 xs1 xs2 1))⟩,
        ⟨Rect.unit ![0, 1, 0] S1x1x128.size inb_S1x2x384_S1x1x128_0_1_0, k0_pay15 (Blk.tsR (blkX i x0 x1 x2 x3 x5 x6 x7 x9 x11 x12 xs0 xs1 xs2 0))⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.1 =
      [⟨Rect.unit ![0, 1, 256] S1x1x128.size inb_S1x2x384_S1x1x128_0_1_256, k0_pay15 (Blk.tsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2))⟩,
        ⟨Rect.unit ![0, 1, 128] S1x1x128.size inb_S1x2x384_S1x1x128_0_1_128, k0_pay15 (Blk.tsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1))⟩,
        ⟨Rect.unit ![0, 1, 0] S1x1x128.size inb_S1x2x384_S1x1x128_0_1_0, k0_pay15 (Blk.tsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0))⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

end Cert.KernelIdeal.Val
-- ==== Proof.KVal.WB3.lean ====
/- The pieces that the body's run writes in case B, as the values of `Cert.KernelIdeal.Val.Blk`. -/
module

public import proofs.«01_k».proof.Proof.KVal.RunB
public import proofs.«01_k».proof.Proof.KVal.BlkX
public import Idealize.ShloMosaic.Lib.Pipeline.ValueKit

@[expose] public section

set_option maxRecDepth 16384

noncomputable section

namespace Cert.KernelIdeal.Val

open Idealize Idealize.ShloMosaic Idealize.ShloMosaic.TcCoe
open Cert.KernelIdeal Cert.KernelIdeal.Gen Cert.Spec

variable (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : ¬cond0_0 i) (hc1 : ¬cond0_1 i) (hc2 : cond0_2 i)
    (x0 : Vec Ideal S768x2048 .i8) (x1 : Vec Ideal S768x128 .f32) (x2 : Vec Ideal S1x384x128 .i8) (x3 : Vec Ideal S768x128 .f32) (x4 : Vec Ideal S1x2048x256 .i8) (x5 : Vec Ideal S35x256 .f32) (x6 : Vec Ideal S1x256 .f32) (x7 : Vec Ideal S1x384x2048 .bf16) (x8 : Vec Ideal S1x2048x256 .i8) (x9 : Vec Ideal S35x256 .f32) (x10 : Vec Ideal S1x256x2048 .i8) (x11 : Vec Ideal S35x2048 .f32) (x12 : Vec Ideal S35x2048 .f32) (y14 : Vec Ideal S1x2x384 .f32) (y15 : Vec Ideal S1x2x384 .f32) (y17 : Vec Ideal S1x2x384 .f32) (y19 : Vec Ideal S1x2x384 .f32) (y21 : Vec Ideal S1x2x384 .f32) (xs0 : Vec Ideal S2048x256 .bf16) (xs1 : Vec Ideal S2048x256 .bf16) (xs2 : Vec Ideal S256x2048 .bf16)

set_option maxHeartbeats 2000000 in
/-- The pieces of output window 14. -/
theorem LB14 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.1 =
      [⟨Rect.unit ![0, 1, 256] S1x1x128.size inb_S1x2x384_S1x1x128_0_1_256, k0_pay15 (Blk.segR (blkX i x0 x1 x2 x3 x5 x6 x7 x9 x11 x12 xs0 xs1 xs2 2))⟩,
        ⟨Rect.unit ![0, 1, 128] S1x1x128.size inb_S1x2x384_S1x1x128_0_1_128, k0_pay15 (Blk.segR (blkX i x0 x1 x2 x3 x5 x6 x7 x9 x11 x12 xs0 xs1 xs2 1))⟩,
        ⟨Rect.unit ![0, 1, 0] S1x1x128.size inb_S1x2x384_S1x1x128_0_1_0, k0_pay15 (Blk.segR (blkX i x0 x1 x2 x3 x5 x6 x7 x9 x11 x12 xs0 xs1 xs2 0))⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.1 =
      [⟨Rect.unit ![0, 1, 256] S1x1x128.size inb_S1x2x384_S1x1x128_0_1_256, k0_pay15 (Blk.segR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2))⟩,
        ⟨Rect.unit ![0, 1, 128] S1x1x128.size inb_S1x2x384_S1x1x128_0_1_128, k0_pay15 (Blk.segR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1))⟩,
        ⟨Rect.unit ![0, 1, 0] S1x1x128.size inb_S1x2x384_S1x1x128_0_1_0, k0_pay15 (Blk.segR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0))⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 16. -/
theorem LB16 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.1 =
      [⟨Rect.unit ![0, 0, 256, 0] S1x1x128x256.size inb_S1x1x384x256_S1x1x128x256_0_0_256_0, Blk.ccP (blkX i x0 x1 x2 x3 x5 x6 x7 x9 x11 x12 xs0 xs1 xs2 2)⟩,
        ⟨Rect.unit ![0, 0, 128, 0] S1x1x128x256.size inb_S1x1x384x256_S1x1x128x256_0_0_128_0, Blk.ccP (blkX i x0 x1 x2 x3 x5 x6 x7 x9 x11 x12 xs0 xs1 xs2 1)⟩,
        ⟨Rect.unit ![0, 0, 0, 0] S1x1x128x256.size inb_S1x1x384x256_S1x1x128x256_0_0_0_0, Blk.ccP (blkX i x0 x1 x2 x3 x5 x6 x7 x9 x11 x12 xs0 xs1 xs2 0)⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.1 =
      [⟨Rect.unit ![0, 0, 256, 0] S1x1x128x256.size inb_S1x1x384x256_S1x1x128x256_0_0_256_0, Blk.ccP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2)⟩,
        ⟨Rect.unit ![0, 0, 128, 0] S1x1x128x256.size inb_S1x1x384x256_S1x1x128x256_0_0_128_0, Blk.ccP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1)⟩,
        ⟨Rect.unit ![0, 0, 0, 0] S1x1x128x256.size inb_S1x1x384x256_S1x1x128x256_0_0_0_0, Blk.ccP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0)⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 17. -/
theorem LB17 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.1 =
      [⟨Rect.unit ![0, 1, 256] S1x1x128.size inb_S1x2x384_S1x1x128_0_1_256, k0_pay15 (Blk.csR (blkX i x0 x1 x2 x3 x5 x6 x7 x9 x11 x12 xs0 xs1 xs2 2))⟩,
        ⟨Rect.unit ![0, 1, 128] S1x1x128.size inb_S1x2x384_S1x1x128_0_1_128, k0_pay15 (Blk.csR (blkX i x0 x1 x2 x3 x5 x6 x7 x9 x11 x12 xs0 xs1 xs2 1))⟩,
        ⟨Rect.unit ![0, 1, 0] S1x1x128.size inb_S1x2x384_S1x1x128_0_1_0, k0_pay15 (Blk.csR (blkX i x0 x1 x2 x3 x5 x6 x7 x9 x11 x12 xs0 xs1 xs2 0))⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.1 =
      [⟨Rect.unit ![0, 1, 256] S1x1x128.size inb_S1x2x384_S1x1x128_0_1_256, k0_pay15 (Blk.csR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2))⟩,
        ⟨Rect.unit ![0, 1, 128] S1x1x128.size inb_S1x2x384_S1x1x128_0_1_128, k0_pay15 (Blk.csR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1))⟩,
        ⟨Rect.unit ![0, 1, 0] S1x1x128.size inb_S1x2x384_S1x1x128_0_1_0, k0_pay15 (Blk.csR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0))⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 18. -/
theorem LB18 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.1 =
      [⟨Rect.unit ![0, 256, 0] S1x128x2048.size inb_S1x384x2048_S1x128x2048_0_256_0, Blk.hcP (blkX i x0 x1 x2 x3 x5 x6 x7 x9 x11 x12 xs0 xs1 xs2 2)⟩,
        ⟨Rect.unit ![0, 128, 0] S1x128x2048.size inb_S1x384x2048_S1x128x2048_0_128_0, Blk.hcP (blkX i x0 x1 x2 x3 x5 x6 x7 x9 x11 x12 xs0 xs1 xs2 1)⟩,
        ⟨Rect.unit ![0, 0, 0] S1x128x2048.size inb_S1x384x2048_S1x128x2048_0_0_0, Blk.hcP (blkX i x0 x1 x2 x3 x5 x6 x7 x9 x11 x12 xs0 xs1 xs2 0)⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.1 =
      [⟨Rect.unit ![0, 256, 0] S1x128x2048.size inb_S1x384x2048_S1x128x2048_0_256_0, Blk.hcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2)⟩,
        ⟨Rect.unit ![0, 128, 0] S1x128x2048.size inb_S1x384x2048_S1x128x2048_0_128_0, Blk.hcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1)⟩,
        ⟨Rect.unit ![0, 0, 0] S1x128x2048.size inb_S1x384x2048_S1x128x2048_0_0_0, Blk.hcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0)⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 19. -/
theorem LB19 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.1 =
      [⟨Rect.unit ![0, 1, 256] S1x1x128.size inb_S1x2x384_S1x1x128_0_1_256, k0_pay15 (Blk.hsR (blkX i x0 x1 x2 x3 x5 x6 x7 x9 x11 x12 xs0 xs1 xs2 2))⟩,
        ⟨Rect.unit ![0, 1, 128] S1x1x128.size inb_S1x2x384_S1x1x128_0_1_128, k0_pay15 (Blk.hsR (blkX i x0 x1 x2 x3 x5 x6 x7 x9 x11 x12 xs0 xs1 xs2 1))⟩,
        ⟨Rect.unit ![0, 1, 0] S1x1x128.size inb_S1x2x384_S1x1x128_0_1_0, k0_pay15 (Blk.hsR (blkX i x0 x1 x2 x3 x5 x6 x7 x9 x11 x12 xs0 xs1 xs2 0))⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.1 =
      [⟨Rect.unit ![0, 1, 256] S1x1x128.size inb_S1x2x384_S1x1x128_0_1_256, k0_pay15 (Blk.hsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2))⟩,
        ⟨Rect.unit ![0, 1, 128] S1x1x128.size inb_S1x2x384_S1x1x128_0_1_128, k0_pay15 (Blk.hsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1))⟩,
        ⟨Rect.unit ![0, 1, 0] S1x1x128.size inb_S1x2x384_S1x1x128_0_1_0, k0_pay15 (Blk.hsR (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0))⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 20. -/
theorem LB20 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.1 =
      [⟨Rect.unit ![0, 256, 0] S1x128x256.size inb_S1x384x256_S1x128x256_0_256_0, Blk.tcP (blkX i x0 x1 x2 x3 x5 x6 x7 x9 x11 x12 xs0 xs1 xs2 2)⟩,
        ⟨Rect.unit ![0, 128, 0] S1x128x256.size inb_S1x384x256_S1x128x256_0_128_0, Blk.tcP (blkX i x0 x1 x2 x3 x5 x6 x7 x9 x11 x12 xs0 xs1 xs2 1)⟩,
        ⟨Rect.unit ![0, 0, 0] S1x128x256.size inb_S1x384x256_S1x128x256_0_0_0, Blk.tcP (blkX i x0 x1 x2 x3 x5 x6 x7 x9 x11 x12 xs0 xs1 xs2 0)⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.1 =
      [⟨Rect.unit ![0, 256, 0] S1x128x256.size inb_S1x384x256_S1x128x256_0_256_0, Blk.tcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2)⟩,
        ⟨Rect.unit ![0, 128, 0] S1x128x256.size inb_S1x384x256_S1x128x256_0_128_0, Blk.tcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1)⟩,
        ⟨Rect.unit ![0, 0, 0] S1x128x256.size inb_S1x384x256_S1x128x256_0_0_0, Blk.tcP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0)⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 22. -/
theorem LB22 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.2.1 =
      [⟨Rect.unit ![0, 0, 256, 0] S1x1x128x256.size inb_S1x1x384x256_S1x1x128x256_0_0_256_0, Blk.pP (blkX i x0 x1 x2 x3 x5 x6 x7 x9 x11 x12 xs0 xs1 xs2 2)⟩,
        ⟨Rect.unit ![0, 0, 128, 0] S1x1x128x256.size inb_S1x1x384x256_S1x1x128x256_0_0_128_0, Blk.pP (blkX i x0 x1 x2 x3 x5 x6 x7 x9 x11 x12 xs0 xs1 xs2 1)⟩,
        ⟨Rect.unit ![0, 0, 0, 0] S1x1x128x256.size inb_S1x1x384x256_S1x1x128x256_0_0_0_0, Blk.pP (blkX i x0 x1 x2 x3 x5 x6 x7 x9 x11 x12 xs0 xs1 xs2 0)⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.2.1 =
      [⟨Rect.unit ![0, 0, 256, 0] S1x1x128x256.size inb_S1x1x384x256_S1x1x128x256_0_0_256_0, Blk.pP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2)⟩,
        ⟨Rect.unit ![0, 0, 128, 0] S1x1x128x256.size inb_S1x1x384x256_S1x1x128x256_0_0_128_0, Blk.pP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1)⟩,
        ⟨Rect.unit ![0, 0, 0, 0] S1x1x128x256.size inb_S1x1x384x256_S1x1x128x256_0_0_0_0, Blk.pP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0)⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 23. -/
theorem LB23 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.2.2.1 =
      [⟨Rect.unit ![0, 256, 0] S1x128x256.size inb_S1x384x256_S1x128x256_0_256_0, Blk.glP (blkX i x0 x1 x2 x3 x5 x6 x7 x9 x11 x12 xs0 xs1 xs2 2)⟩,
        ⟨Rect.unit ![0, 128, 0] S1x128x256.size inb_S1x384x256_S1x128x256_0_128_0, Blk.glP (blkX i x0 x1 x2 x3 x5 x6 x7 x9 x11 x12 xs0 xs1 xs2 1)⟩,
        ⟨Rect.unit ![0, 0, 0] S1x128x256.size inb_S1x384x256_S1x128x256_0_0_0, Blk.glP (blkX i x0 x1 x2 x3 x5 x6 x7 x9 x11 x12 xs0 xs1 xs2 0)⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.2.2.1 =
      [⟨Rect.unit ![0, 256, 0] S1x128x256.size inb_S1x384x256_S1x128x256_0_256_0, Blk.glP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2)⟩,
        ⟨Rect.unit ![0, 128, 0] S1x128x256.size inb_S1x384x256_S1x128x256_0_128_0, Blk.glP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1)⟩,
        ⟨Rect.unit ![0, 0, 0] S1x128x256.size inb_S1x384x256_S1x128x256_0_0_0, Blk.glP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0)⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

set_option maxHeartbeats 2000000 in
/-- The pieces of output window 24. -/
theorem LB24 : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.2.2.2.1 =
      [⟨Rect.unit ![0, 256, 0] S1x128x256.size inb_S1x384x256_S1x128x256_0_256_0, Blk.tP (blkX i x0 x1 x2 x3 x5 x6 x7 x9 x11 x12 xs0 xs1 xs2 2)⟩,
        ⟨Rect.unit ![0, 128, 0] S1x128x256.size inb_S1x384x256_S1x128x256_0_128_0, Blk.tP (blkX i x0 x1 x2 x3 x5 x6 x7 x9 x11 x12 xs0 xs1 xs2 1)⟩,
        ⟨Rect.unit ![0, 0, 0] S1x128x256.size inb_S1x384x256_S1x128x256_0_0_0, Blk.tP (blkX i x0 x1 x2 x3 x5 x6 x7 x9 x11 x12 xs0 xs1 xs2 0)⟩] := by
  have h : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21 xs0 xs1 xs2).2.2.2.2.2.2.2.2.2.2.2.1 =
      [⟨Rect.unit ![0, 256, 0] S1x128x256.size inb_S1x384x256_S1x128x256_0_256_0, Blk.tP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 2)⟩,
        ⟨Rect.unit ![0, 128, 0] S1x128x256.size inb_S1x384x256_S1x128x256_0_128_0, Blk.tP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 1)⟩,
        ⟨Rect.unit ![0, 0, 0] S1x128x256.size inb_S1x384x256_S1x128x256_0_0_0, Blk.tP (blkX i (arg2.view.read (Elt Ideal) (harg2.unread x0)) (arg3.view.read (Elt Ideal) (harg3.unread x1)) (arg4.view.read (Elt Ideal) (harg4.unread x2)) (arg5.view.read (Elt Ideal) (harg5.unread x3)) (arg7.view.read (Elt Ideal) (harg7.unread x5)) (arg8.view.read (Elt Ideal) (harg8.unread x6)) (arg9.view.read (Elt Ideal) (harg9.unread x7)) (arg11.view.read (Elt Ideal) (harg11.unread x9)) (arg13.view.read (Elt Ideal) (harg13.unread x11)) (arg14.view.read (Elt Ideal) (harg14.unread x12)) (View.ld (arg28.view.read (Elt Ideal) (harg28.unread xs0)) (Rect.unit ![0, 0] S2048x256.size inb_S2048x256_S2048x256_0_0)) (View.ld (arg29.view.read (Elt Ideal) (harg29.unread xs1)) (Rect.unit ![0, 0] S2048x256.size inb_S2048x256_S2048x256_0_0)) (View.ld (arg30.view.read (Elt Ideal) (harg30.unread xs2)) (Rect.unit ![0, 0] S256x2048.size inb_S256x2048_S256x2048_0_0)) 0)⟩] := rfl
  rw [h]
  simp only [harg2.read_unread, harg3.read_unread, harg4.read_unread, harg5.read_unread, harg7.read_unread, harg8.read_unread, harg9.read_unread, harg11.read_unread, harg13.read_unread, harg14.read_unread, harg28.read_unread, harg29.read_unread, harg30.read_unread, View.ld_unit_lit (S := S2048x256) (off := ![0, 0]) inb_S2048x256_S2048x256_0_0 _ (by decide), View.ld_unit_lit (S := S256x2048) (off := ![0, 0]) inb_S256x2048_S256x2048_0_0 _ (by decide)]

end Cert.KernelIdeal.Val
-- ==== Proof.KVal.WAS.lean ====
/- What the first point of a layer leaves in the scratch buffers: the widened weights. -/
module

public import proofs.«01_k».proof.Proof.KVal.WA0
public import proofs.«01_k».proof.Proof.KVal.BlkX
public import Idealize.ShloMosaic.Lib.Pipeline.ValueKit
public import Idealize.ShloMosaic.Lib.Pipeline.DatRel

@[expose] public section

set_option maxRecDepth 16384

noncomputable section

namespace Cert.KernelIdeal.Val

open Cert.KernelIdeal Cert.KernelIdeal.Gen Cert.Spec
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

/-- A buffer stored whole holds what was stored. -/
theorem read_whole {S : Shape} {e : EltTy} {κ : Kind} {sp : Space} (v : View sig κ sp S e) (f : v.ty.Contents (Elt Ideal)) {off : Fin S.rank → Nat}
    (inb : ∀ a, off a + S.size a ≤ S.size a) (w : S.Idx → Elt Ideal e) (h : ∀ a, off a = 0) :
    v.read (Elt Ideal) (v.writes (Elt Ideal) f [(⟨Rect.unit off S.size inb, w⟩ : View.Piece (Elt Ideal) S e)]) = w := by
  funext y
  rw [View.read_writes_apply_eq_canon, View.canon_cons_unit_lit inb w [] h]
  exact ⟨_, List.mem_cons_self, by rw [Rect.mem_set_unit]; intro a; have := h a; have := (y a).isLt; exact ⟨by omega, by omega⟩⟩

variable (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : cond0_0 i) (hc1 : cond0_1 i) (hc2 : ¬cond0_2 i)
    (x0 : Vec Ideal S768x2048 .i8) (x1 : Vec Ideal S768x128 .f32) (x2 : Vec Ideal S1x384x128 .i8) (x3 : Vec Ideal S768x128 .f32) (x4 : Vec Ideal S1x2048x256 .i8) (x5 : Vec Ideal S35x256 .f32) (x6 : Vec Ideal S1x256 .f32) (x7 : Vec Ideal S1x384x2048 .bf16) (x8 : Vec Ideal S1x2048x256 .i8) (x9 : Vec Ideal S35x256 .f32) (x10 : Vec Ideal S1x256x2048 .i8) (x11 : Vec Ideal S35x2048 .f32) (x12 : Vec Ideal S35x2048 .f32) (y14 : Vec Ideal S1x2x384 .f32) (y15 : Vec Ideal S1x2x384 .f32) (y17 : Vec Ideal S1x2x384 .f32) (y19 : Vec Ideal S1x2x384 .f32) (y21 : Vec Ideal S1x2x384 .f32)

set_option maxHeartbeats 2000000 in
/-- The piece stored in scratch buffer 0. -/
theorem LAS0 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.2.2.1 = [⟨Rect.unit ![0, 0] S2048x256.size inb_S2048x256_S2048x256_0_0, k0_pay31 x4⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.2.2.1 = [⟨Rect.unit ![0, 0] S2048x256.size inb_S2048x256_S2048x256_0_0, k0_pay31 (View.ld (arg6.view.read (Elt Ideal) (harg6.unread x4)) (Rect.unit ![0, 0, 0] S1x2048x256.size inb_S1x2048x256_S1x2048x256_0_0_0))⟩] := rfl
  rw [h, harg6.read_unread, View.ld_unit_lit _ _ (by decide)]

set_option maxHeartbeats 2000000 in
/-- The piece stored in scratch buffer 1. -/
theorem LAS1 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.2.2.2.1 = [⟨Rect.unit ![0, 0] S2048x256.size inb_S2048x256_S2048x256_0_0, k0_pay32 x8⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.2.2.2.1 = [⟨Rect.unit ![0, 0] S2048x256.size inb_S2048x256_S2048x256_0_0, k0_pay32 (View.ld (arg10.view.read (Elt Ideal) (harg10.unread x8)) (Rect.unit ![0, 0, 0] S1x2048x256.size inb_S1x2048x256_S1x2048x256_0_0_0))⟩] := rfl
  rw [h, harg10.read_unread, View.ld_unit_lit _ _ (by decide)]

set_option maxHeartbeats 2000000 in
/-- The piece stored in scratch buffer 2. -/
theorem LAS2 : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.2.2.2.2.1 = [⟨Rect.unit ![0, 0] S256x2048.size inb_S256x2048_S256x2048_0_0, k0_pay33 x10⟩] := by
  have h : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 hc1 hc2 x0 x1 x2 x3 x4 x5 x6 x7 x8 x9 x10 x11 x12 y14 y15 y17 y19 y21).2.2.2.2.2.2.2.2.2.2.2.2.2.2.2.1 = [⟨Rect.unit ![0, 0] S256x2048.size inb_S256x2048_S256x2048_0_0, k0_pay33 (View.ld (arg12.view.read (Elt Ideal) (harg12.unread x10)) (Rect.unit ![0, 0, 0] S1x256x2048.size inb_S1x256x2048_S1x256x2048_0_0_0))⟩] := rfl
  rw [h, harg12.read_unread, View.ld_unit_lit _ _ (by decide)]

end Cert.KernelIdeal.Val
-- ==== Proof.KVal.OblPre.lean ====
/- The body meets the pipeline's obligation at every grid point: each output window's buffer is left at its rows' mathematics. -/
module

public import proofs.«01_k».proof.Proof.KVal.Data
public import proofs.«01_k».proof.Proof.KVal.WA1
public import proofs.«01_k».proof.Proof.KVal.WA2
public import proofs.«01_k».proof.Proof.KVal.WA3
public import proofs.«01_k».proof.Proof.KVal.WB1
public import proofs.«01_k».proof.Proof.KVal.WB2
public import proofs.«01_k».proof.Proof.KVal.WB3
public import proofs.«01_k».proof.Proof.KVal.WAS

@[expose] public section

set_option maxRecDepth 16384

noncomputable section

namespace Cert.KernelIdeal.Val

open Cert.KernelIdeal Cert.KernelIdeal.Gen Cert.Spec
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ Y, ⌜(rd m c).Finds 13 t Y⌝ ∗ owns (c : Thread nD τ) (ms0_13 t) fullShare Y)
    ∗ (∃ Y, ⌜(rd m c).Finds 14 t Y⌝ ∗ owns (c : Thread nD τ) (ms0_14 t) fullShare Y)
    ∗ (∃ Y, ⌜(rd m c).Finds 15 t Y⌝ ∗ owns (c : Thread nD τ) (ms0_15 t) fullShare Y)
    ∗ (∃ Y, ⌜(rd m c).Finds 16 t Y⌝ ∗ owns (c : Thread nD τ) (ms0_16 t) fullShare Y)
    ∗ (∃ Y, ⌜(rd m c).Finds 17 t Y⌝ ∗ owns (c : Thread nD τ) (ms0_17 t) fullShare Y)
    ∗ (∃ Y, ⌜(rd m c).Finds 18 t Y⌝ ∗ owns (c : Thread nD τ) (ms0_18 t) fullShare Y)
    ∗ (∃ Y, ⌜(rd m c).Finds 19 t Y⌝ ∗ owns (c : Thread nD τ) (ms0_19 t) fullShare Y)
    ∗ (∃ Y, ⌜(rd m c).Finds 20 t Y⌝ ∗ owns (c : Thread nD τ) (ms0_20 t) fullShare Y)
    ∗ (∃ Y, ⌜(rd m c).Finds 21 t Y⌝ ∗ owns (c : Thread nD τ) (ms0_21 t) fullShare Y)
    ∗ (∃ Y, ⌜(rd m c).Finds 22 t Y⌝ ∗ owns (c : Thread nD τ) (ms0_22 t) fullShare Y)
    ∗ (∃ Y, ⌜(rd m c).Finds 23 t Y⌝ ∗ owns (c : Thread nD τ) (ms0_23 t) fullShare Y)
    ∗ (∃ Y, ⌜(rd m c).Finds 24 t Y⌝ ∗ owns (c : Thread nD τ) (ms0_24 t) fullShare Y)
    ∗ (∃ Y, ⌜(rd m c).Finds 25 t Y⌝ ∗ owns (c : Thread nD τ) (ms0_25 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X)
    ∗ (∃ X, ⌜Rl m c 18 t X⌝ ∗ owns (c : Thread nD τ) (ms0_18 t) fullShare X)
    ∗ (∃ X, ⌜Rl m c 19 t X⌝ ∗ owns (c : Thread nD τ) (ms0_19 t) fullShare X)
    ∗ (∃ X, ⌜Rl m c 20 t X⌝ ∗ owns (c : Thread nD τ) (ms0_20 t) fullShare X)
    ∗ (∃ X, ⌜Rl m c 21 t X⌝ ∗ owns (c : Thread nD τ) (ms0_21 t) fullShare X)
    ∗ (∃ X, ⌜Rl m c 22 t X⌝ ∗ owns (c : Thread nD τ) (ms0_22 t) fullShare X)
    ∗ (∃ X, ⌜Rl m c 23 t X⌝ ∗ owns (c : Thread nD τ) (ms0_23 t) fullShare X)
    ∗ (∃ X, ⌜Rl m c 24 t X⌝ ∗ owns (c : Thread nD τ) (ms0_24 t) fullShare X)
    ∗ (∃ X, ⌜Rl m c 25 t X⌝ ∗ owns (c : Thread nD τ) (ms0_25 t) fullShare X))

end Cert.KernelIdeal.Val
-- ==== Proof.KVal.OblA.lean ====
/- The body meets the pipeline's obligation at the first tile of a layer. -/
module

public import proofs.«01_k».proof.Proof.KVal.OblPre

@[expose] public section

set_option maxRecDepth 16384

noncomputable section

namespace Cert.KernelIdeal.Val

open Cert.KernelIdeal Cert.KernelIdeal.Gen Cert.Spec
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)
variable (c : Dev nD) (t : Fin cfg0.N) (h0 : t.val % 2 = 0) (hc0 : cond0_0 (grid0.coords t)) (hc1 : cond0_1 (grid0.coords t)) (hc2 : ¬cond0_2 (grid0.coords t))
    (d14 d15 d17 d19 d21 : Vec Ideal S1x2x384 .f32)
set_option maxHeartbeats 2000000 in
/-- Window 13 after the body. -/
theorem sA_13 (f) : Rl m c 13 t ((ms0_13 t).view.read (Elt Ideal) ((ms0_13 t).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).1)) := by
  rw [rl_13, LA13]
  exact close_13 m c t _ _

set_option maxHeartbeats 2000000 in
include h0 in
/-- Window 14 after the body. -/
theorem sA_14 : Rl m c 14 t ((ms0_14 t).view.read (Elt Ideal) ((ms0_14 t).view.writes (Elt Ideal) ((hs0_14 t).unread d14) (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.1)) := by
  rw [rl_14, LA14]
  exact statA m c t Row.seg h0 _ _ (fun k => k0_pay15 (Blk.segR (blkT m c t k))) (row_14 m c t)

set_option maxHeartbeats 2000000 in
include h0 in
/-- Window 15 after the body. -/
theorem sA_15 : Rl m c 15 t ((ms0_15 t).view.read (Elt Ideal) ((ms0_15 t).view.writes (Elt Ideal) ((hs0_15 t).unread d15) (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.1)) := by
  rw [rl_15, LA15]
  exact statA m c t Row.post h0 _ _ (fun k => k0_pay15 (Blk.postR (blkT m c t k))) (row_15 m c t)

set_option maxHeartbeats 2000000 in
/-- Window 16 after the body. -/
theorem sA_16 (f) : Rl m c 16 t ((ms0_16 t).view.read (Elt Ideal) ((ms0_16 t).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.1)) := by
  rw [rl_16, LA16]
  exact close_16 m c t _ _

set_option maxHeartbeats 2000000 in
include h0 in
/-- Window 17 after the body. -/
theorem sA_17 : Rl m c 17 t ((ms0_17 t).view.read (Elt Ideal) ((ms0_17 t).view.writes (Elt Ideal) ((hs0_17 t).unread d17) (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.1)) := by
  rw [rl_17, LA17]
  exact statA m c t Row.cs h0 _ _ (fun k => k0_pay15 (Blk.csR (blkT m c t k))) (row_17 m c t)

set_option maxHeartbeats 2000000 in
/-- Window 18 after the body. -/
theorem sA_18 (f) : Rl m c 18 t ((ms0_18 t).view.read (Elt Ideal) ((ms0_18 t).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.1)) := by
  rw [rl_18, LA18]
  exact close_18 m c t _ _

set_option maxHeartbeats 2000000 in
include h0 in
/-- Window 19 after the body. -/
theorem sA_19 : Rl m c 19 t ((ms0_19 t).view.read (Elt Ideal) ((ms0_19 t).view.writes (Elt Ideal) ((hs0_19 t).unread d19) (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.1)) := by
  rw [rl_19, LA19]
  exact statA m c t Row.hs h0 _ _ (fun k => k0_pay15 (Blk.hsR (blkT m c t k))) (row_19 m c t)

set_option maxHeartbeats 2000000 in
/-- Window 20 after the body. -/
theorem sA_20 (f) : Rl m c 20 t ((ms0_20 t).view.read (Elt Ideal) ((ms0_20 t).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.2.1)) := by
  rw [rl_20, LA20]
  exact close_20 m c t _ _

set_option maxHeartbeats 2000000 in
include h0 in
/-- Window 21 after the body. -/
theorem sA_21 : Rl m c 21 t ((ms0_21 t).view.read (Elt Ideal) ((ms0_21 t).view.writes (Elt Ideal) ((hs0_21 t).unread d21) (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.2.2.1)) := by
  rw [rl_21, LA21]
  exact statA m c t Row.ts h0 _ _ (fun k => k0_pay15 (Blk.tsR (blkT m c t k))) (row_21 m c t)

set_option maxHeartbeats 2000000 in
/-- Window 22 after the body. -/
theorem sA_22 (f) : Rl m c 22 t ((ms0_22 t).view.read (Elt Ideal) ((ms0_22 t).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.2.2.2.1)) := by
  rw [rl_22, LA22]
  exact close_22 m c t _ _

set_option maxHeartbeats 2000000 in
/-- Window 23 after the body. -/
theorem sA_23 (f) : Rl m c 23 t ((ms0_23 t).view.read (Elt Ideal) ((ms0_23 t).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.2.2.2.2.1)) := by
  rw [rl_23, LA23]
  exact close_23 m c t _ _

set_option maxHeartbeats 2000000 in
/-- Window 24 after the body. -/
theorem sA_24 (f) : Rl m c 24 t ((ms0_24 t).view.read (Elt Ideal) ((ms0_24 t).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.2.2.2.2.2.1)) := by
  rw [rl_24, LA24]
  exact close_24 m c t _ _

set_option maxHeartbeats 2000000 in
/-- Window 25 after the body. -/
theorem sA_25 (f) : Rl m c 25 t ((ms0_25 t).view.read (Elt Ideal) ((ms0_25 t).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.2.2.2.2.2.2.1)) := by
  rw [rl_25, LA25]
  exact close_25 m c t _ _

set_option maxHeartbeats 2000000 in
/-- Scratch buffer 0 after the body. -/
theorem sA_s0 (f) : (Memref.whole cc0_scratch0).view.read (Elt Ideal) ((Memref.whole cc0_scratch0).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.2.2.2.2.2.2.2.1) = k0_pay31 (F := Ideal) (iblk m c 4 t) := by
  rw [LAS0]
  exact read_whole _ f _ _ (by decide)

set_option maxHeartbeats 2000000 in
/-- Scratch buffer 1 after the body. -/
theorem sA_s1 (f) : (Memref.whole cc0_scratch1).view.read (Elt Ideal) ((Memref.whole cc0_scratch1).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.2.2.2.2.2.2.2.2.1) = k0_pay32 (F := Ideal) (iblk m c 8 t) := by
  rw [LAS1]
  exact read_whole _ f _ _ (by decide)

set_option maxHeartbeats 2000000 in
/-- Scratch buffer 2 after the body. -/
theorem sA_s2 (f) : (Memref.whole cc0_scratch2).view.read (Elt Ideal) ((Memref.whole cc0_scratch2).view.writes (Elt Ideal) f (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21).2.2.2.2.2.2.2.2.2.2.2.2.2.2.2.1) = k0_pay33 (F := Ideal) (iblk m c 10 t) := by
  rw [LAS2]
  exact read_whole _ f _ _ (by decide)

set_option maxHeartbeats 8000000 in
include h0 in
/-- The body at the first tile of a layer. -/
theorem sound_A :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12]
  have hc0 : cond0_0 (grid0.coords t) := (hcond0_0 t).mpr h0
  have hc1 : cond0_1 (grid0.coords t) := (hcond0_1 t).mpr h0
  have hc2 : ¬cond0_2 (grid0.coords t) := fun h => by have := (hcond0_2 t).mp h; omega
  rw [Phi_castSucc m c t, PhiV_even m c _ _ h0, PhiA0_eq, show (dats m 0 c).Φ t.succ = PhiV m c (t.val + 1) t.isLt from rfl, PhiV_succ m c t h0]
  unfold scr
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, %hF13, H13⟩, ⟨%d14, %hF14, H14⟩, ⟨%d15, %hF15, H15⟩, ⟨%d16, %hF16, H16⟩, ⟨%d17, %hF17, H17⟩, ⟨%d18, %hF18, H18⟩, ⟨%d19, %hF19, H19⟩, ⟨%d20, %hF20, H20⟩, ⟨%d21, %hF21, H21⟩, ⟨%d22, %hF22, H22⟩, ⟨%d23, %hF23, H23⟩, ⟨%d24, %hF24, H24⟩, ⟨%d25, %hF25, H25⟩⟩
  obtain ⟨r, hr⟩ : ∃ r, r = (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21) := ⟨_, rfl⟩
  have f13 : ∀ f, Rl m c 13 t ((ms0_13 t).view.read (Elt Ideal) ((ms0_13 t).view.writes (Elt Ideal) f r.1)) := by
    rw [hr]; exact sA_13 m c t hc0 hc1 hc2 d14 d15 d17 d19 d21
  have f14 : Rl m c 14 t ((ms0_14 t).view.read (Elt Ideal) ((ms0_14 t).view.writes (Elt Ideal) ((hs0_14 t).unread d14) r.2.1)) := by
    rw [hr]; exact sA_14 m c t h0 hc0 hc1 hc2 d14 d15 d17 d19 d21
  have f15 : Rl m c 15 t ((ms0_15 t).view.read (Elt Ideal) ((ms0_15 t).view.writes (Elt Ideal) ((hs0_15 t).unread d15) r.2.2.1)) := by
    rw [hr]; exact sA_15 m c t h0 hc0 hc1 hc2 d14 d15 d17 d19 d21
  have f16 : ∀ f, Rl m c 16 t ((ms0_16 t).view.read (Elt Ideal) ((ms0_16 t).view.writes (Elt Ideal) f r.2.2.2.1)) := by
    rw [hr]; exact sA_16 m c t hc0 hc1 hc2 d14 d15 d17 d19 d21
  have f17 : Rl m c 17 t ((ms0_17 t).view.read (Elt Ideal) ((ms0_17 t).view.writes (Elt Ideal) ((hs0_17 t).unread d17) r.2.2.2.2.1)) := by
    rw [hr]; exact sA_17 m c t h0 hc0 hc1 hc2 d14 d15 d17 d19 d21
  have f18 : ∀ f, Rl m c 18 t ((ms0_18 t).view.read (Elt Ideal) ((ms0_18 t).view.writes (Elt Ideal) f r.2.2.2.2.2.1)) := by
    rw [hr]; exact sA_18 m c t hc0 hc1 hc2 d14 d15 d17 d19 d21
  have f19 : Rl m c 19 t ((ms0_19 t).view.read (Elt Ideal) ((ms0_19 t).view.writes (Elt Ideal) ((hs0_19 t).unread d19) r.2.2.2.2.2.2.1)) := by
    rw [hr]; exact sA_19 m c t h0 hc0 hc1 hc2 d14 d15 d17 d19 d21
  have f20 : ∀ f, Rl m c 20 t ((ms0_20 t).view.read (Elt Ideal) ((ms0_20 t).view.writes (Elt Ideal) f r.2.2.2.2.2.2.2.1)) := by
    rw [hr]; exact sA_20 m c t hc0 hc1 hc2 d14 d15 d17 d19 d21
  have f21 : Rl m c 21 t ((ms0_21 t).view.read (Elt Ideal) ((ms0_21 t).view.writes (Elt Ideal) ((hs0_21 t).unread d21) r.2.2.2.2.2.2.2.2.1)) := by
    rw [hr]; exact sA_21 m c t h0 hc0 hc1 hc2 d14 d15 d17 d19 d21
  have f22 : ∀ f, Rl m c 22 t ((ms0_22 t).view.read (Elt Ideal) ((ms0_22 t).view.writes (Elt Ideal) f r.2.2.2.2.2.2.2.2.2.1)) := by
    rw [hr]; exact sA_22 m c t hc0 hc1 hc2 d14 d15 d17 d19 d21
  have f23 : ∀ f, Rl m c 23 t ((ms0_23 t).view.read (Elt Ideal) ((ms0_23 t).view.writes (Elt Ideal) f r.2.2.2.2.2.2.2.2.2.2.1)) := by
    rw [hr]; exact sA_23 m c t hc0 hc1 hc2 d14 d15 d17 d19 d21
  have f24 : ∀ f, Rl m c 24 t ((ms0_24 t).view.read (Elt Ideal) ((ms0_24 t).view.writes (Elt Ideal) f r.2.2.2.2.2.2.2.2.2.2.2.1)) := by
    rw [hr]; exact sA_24 m c t hc0 hc1 hc2 d14 d15 d17 d19 d21
  have f25 : ∀ f, Rl m c 25 t ((ms0_25 t).view.read (Elt Ideal) ((ms0_25 t).view.writes (Elt Ideal) f r.2.2.2.2.2.2.2.2.2.2.2.2.1)) := by
    rw [hr]; exact sA_25 m c t hc0 hc1 hc2 d14 d15 d17 d19 d21
  have fs0 : ∀ f, (Memref.whole cc0_scratch0).view.read (Elt Ideal) ((Memref.whole cc0_scratch0).view.writes (Elt Ideal) f r.2.2.2.2.2.2.2.2.2.2.2.2.2.1) = k0_pay31 (F := Ideal) (iblk m c 4 t) := by
    rw [hr]; exact sA_s0 m c t hc0 hc1 hc2 d14 d15 d17 d19 d21
  have fs1 : ∀ f, (Memref.whole cc0_scratch1).view.read (Elt Ideal) ((Memref.whole cc0_scratch1).view.writes (Elt Ideal) f r.2.2.2.2.2.2.2.2.2.2.2.2.2.2.1) = k0_pay32 (F := Ideal) (iblk m c 8 t) := by
    rw [hr]; exact sA_s1 m c t hc0 hc1 hc2 d14 d15 d17 d19 d21
  have fs2 : ∀ f, (Memref.whole cc0_scratch2).view.read (Elt Ideal) ((Memref.whole cc0_scratch2).view.writes (Elt Ideal) f r.2.2.2.2.2.2.2.2.2.2.2.2.2.2.2.1) = k0_pay33 (F := Ideal) (iblk m c 10 t) := by
    rw [hr]; exact sA_s2 m c t hc0 hc1 hc2 d14 d15 d17 d19 d21
  clear hr
  iapply (r.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexact H15
  isplitl [H16]; · iexists _; iexact H16
  isplitl [H17]; · iexact H17
  isplitl [H18]; · iexists _; iexact H18
  isplitl [H19]; · iexact H19
  isplitl [H20]; · iexists _; iexact H20
  isplitl [H21]; · iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  isplitl [HS2]; · iexact HS2
  iintro ⟨H0, H1, H2, H3, H4, H5, H6, H7, H8, H9, H10, H11, H12, ⟨%e13, H13⟩, H14, H15, ⟨%e16, H16⟩, H17, ⟨%e18, H18⟩, H19, ⟨%e20, H20⟩, H21, ⟨%e22, H22⟩, ⟨%e23, H23⟩, ⟨%e24, H24⟩, ⟨%e25, H25⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact fs0 _
      isplitl [HS1]
      · unfold owns; iexists _; isplitr
        swap; · iexact HS1
        ipureintro; exact fs1 _
      unfold owns; iexists _; isplitr
      swap; · iexact HS2
      ipureintro; exact fs2 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap
    · unfold owns; iexists _; isplitr
      swap; · iexact H13
      ipureintro; rfl
    ipureintro
    exact f13 _
  isplitl [H14]
  · iexists _; isplitr
    swap
    · unfold owns; iexists _; isplitr
      swap; · iexact H14
      ipureintro; rfl
    ipureintro
    exact f14
  isplitl [H15]
  · iexists _; isplitr
    swap
    · unfold owns; iexists _; isplitr
      swap; · iexact H15
      ipureintro; rfl
    ipureintro
    exact f15
  isplitl [H16]
  · iexists _; isplitr
    swap
    · unfold owns; iexists _; isplitr
      swap; · iexact H16
      ipureintro; rfl
    ipureintro
    exact f16 _
  isplitl [H17]
  · iexists _; isplitr
    swap
    · unfold owns; iexists _; isplitr
      swap; · iexact H17
      ipureintro; rfl
    ipureintro
    exact f17
  isplitl [H18]
  · iexists _; isplitr
    swap
    · unfold owns; iexists _; isplitr
      swap; · iexact H18
      ipureintro; rfl
    ipureintro
    exact f18 _
  isplitl [H19]
  · iexists _; isplitr
    swap
    · unfold owns; iexists _; isplitr
      swap; · iexact H19
      ipureintro; rfl
    ipureintro
    exact f19
  isplitl [H20]
  · iexists _; isplitr
    swap
    · unfold owns; iexists _; isplitr
      swap; · iexact H20
      ipureintro; rfl
    ipureintro
    exact f20 _
  isplitl [H21]
  · iexists _; isplitr
    swap
    · unfold owns; iexists _; isplitr
      swap; · iexact H21
      ipureintro; rfl
    ipureintro
    exact f21
  isplitl [H22]
  · iexists _; isplitr
    swap
    · unfold owns; iexists _; isplitr
      swap; · iexact H22
      ipureintro; rfl
    ipureintro
    exact f22 _
  isplitl [H23]
  · iexists _; isplitr
    swap
    · unfold owns; iexists _; isplitr
      swap; · iexact H23
      ipureintro; rfl
    ipureintro
    exact f23 _
  isplitl [H24]
  · iexists _; isplitr
    swap
    · unfold owns; iexists _; isplitr
      swap; · iexact H24
      ipureintro; rfl
    ipureintro
    exact f24 _
  iexists _; isplitr
  swap
  · unfold owns; iexists _; isplitr
    swap; · iexact H25
    ipureintro; rfl
  ipureintro
  exact f25 _

end Cert.KernelIdeal.Val
-- ==== Proof.KVal.OblB.lean ====
/- The body meets the pipeline's obligation at the second tile of a layer. -/
module

public import proofs.«01_k».proof.Proof.KVal.OblPre

@[expose] public section

set_option maxRecDepth 16384

noncomputable section

namespace Cert.KernelIdeal.Val

open Cert.KernelIdeal Cert.KernelIdeal.Gen Cert.Spec
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)
variable (c : Dev nD) (t : Fin cfg0.N) (h1 : t.val % 2 = 1) (hc0 : ¬cond0_0 (grid0.coords t)) (hc1 : ¬cond0_1 (grid0.coords t)) (hc2 : cond0_2 (grid0.coords t))
    (d14 d15 d17 d19 d21 : Vec Ideal S1x2x384 .f32)
set_option maxHeartbeats 2000000 in
/-- Window 13 after the body. -/
theorem sB_13 (f) : Rl m c 13 t ((ms0_13 t).view.read (Elt Ideal) ((ms0_13 t).view.writes (Elt Ideal) f (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).1)) := by
  rw [rl_13, LB13]
  exact close_13 m c t _ _

set_option maxHeartbeats 2000000 in
include h1 in
/-- Window 14 after the body. -/
theorem sB_14 (hF : (rd m c).Finds 14 t d14) : Rl m c 14 t ((ms0_14 t).view.read (Elt Ideal) ((ms0_14 t).view.writes (Elt Ideal) ((hs0_14 t).unread d14) (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.1)) := by
  rw [rl_14, LB14]
  exact statB m c t Row.seg h1 _ _ (fun k => k0_pay15 (Blk.segR (blkT m c t k))) (row_14 m c t)
    (fun y hy => (congrFun ((hs0_14 t).read_unread d14) y).trans (found_14 m c t h1 d14 hF y hy))

set_option maxHeartbeats 2000000 in
include h1 in
/-- Window 15 after the body. -/
theorem sB_15 (hF : (rd m c).Finds 15 t d15) : Rl m c 15 t ((ms0_15 t).view.read (Elt Ideal) ((ms0_15 t).view.writes (Elt Ideal) ((hs0_15 t).unread d15) (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.1)) := by
  rw [rl_15, LB15]
  exact statB m c t Row.post h1 _ _ (fun k => k0_pay15 (Blk.postR (blkT m c t k))) (row_15 m c t)
    (fun y hy => (congrFun ((hs0_15 t).read_unread d15) y).trans (found_15 m c t h1 d15 hF y hy))

set_option maxHeartbeats 2000000 in
/-- Window 16 after the body. -/
theorem sB_16 (f) : Rl m c 16 t ((ms0_16 t).view.read (Elt Ideal) ((ms0_16 t).view.writes (Elt Ideal) f (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.1)) := by
  rw [rl_16, LB16]
  exact close_16 m c t _ _

set_option maxHeartbeats 2000000 in
include h1 in
/-- Window 17 after the body. -/
theorem sB_17 (hF : (rd m c).Finds 17 t d17) : Rl m c 17 t ((ms0_17 t).view.read (Elt Ideal) ((ms0_17 t).view.writes (Elt Ideal) ((hs0_17 t).unread d17) (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.2.1)) := by
  rw [rl_17, LB17]
  exact statB m c t Row.cs h1 _ _ (fun k => k0_pay15 (Blk.csR (blkT m c t k))) (row_17 m c t)
    (fun y hy => (congrFun ((hs0_17 t).read_unread d17) y).trans (found_17 m c t h1 d17 hF y hy))

set_option maxHeartbeats 2000000 in
/-- Window 18 after the body. -/
theorem sB_18 (f) : Rl m c 18 t ((ms0_18 t).view.read (Elt Ideal) ((ms0_18 t).view.writes (Elt Ideal) f (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.2.2.1)) := by
  rw [rl_18, LB18]
  exact close_18 m c t _ _

set_option maxHeartbeats 2000000 in
include h1 in
/-- Window 19 after the body. -/
theorem sB_19 (hF : (rd m c).Finds 19 t d19) : Rl m c 19 t ((ms0_19 t).view.read (Elt Ideal) ((ms0_19 t).view.writes (Elt Ideal) ((hs0_19 t).unread d19) (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.2.2.2.1)) := by
  rw [rl_19, LB19]
  exact statB m c t Row.hs h1 _ _ (fun k => k0_pay15 (Blk.hsR (blkT m c t k))) (row_19 m c t)
    (fun y hy => (congrFun ((hs0_19 t).read_unread d19) y).trans (found_19 m c t h1 d19 hF y hy))

set_option maxHeartbeats 2000000 in
/-- Window 20 after the body. -/
theorem sB_20 (f) : Rl m c 20 t ((ms0_20 t).view.read (Elt Ideal) ((ms0_20 t).view.writes (Elt Ideal) f (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.2.2.2.2.1)) := by
  rw [rl_20, LB20]
  exact close_20 m c t _ _

set_option maxHeartbeats 2000000 in
include h1 in
/-- Window 21 after the body. -/
theorem sB_21 (hF : (rd m c).Finds 21 t d21) : Rl m c 21 t ((ms0_21 t).view.read (Elt Ideal) ((ms0_21 t).view.writes (Elt Ideal) ((hs0_21 t).unread d21) (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.2.2.2.2.2.1)) := by
  rw [rl_21, LB21]
  exact statB m c t Row.ts h1 _ _ (fun k => k0_pay15 (Blk.tsR (blkT m c t k))) (row_21 m c t)
    (fun y hy => (congrFun ((hs0_21 t).read_unread d21) y).trans (found_21 m c t h1 d21 hF y hy))

set_option maxHeartbeats 2000000 in
/-- Window 22 after the body. -/
theorem sB_22 (f) : Rl m c 22 t ((ms0_22 t).view.read (Elt Ideal) ((ms0_22 t).view.writes (Elt Ideal) f (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.2.2.2.2.2.2.1)) := by
  rw [rl_22, LB22]
  exact close_22 m c t _ _

set_option maxHeartbeats 2000000 in
/-- Window 23 after the body. -/
theorem sB_23 (f) : Rl m c 23 t ((ms0_23 t).view.read (Elt Ideal) ((ms0_23 t).view.writes (Elt Ideal) f (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.2.2.2.2.2.2.2.1)) := by
  rw [rl_23, LB23]
  exact close_23 m c t _ _

set_option maxHeartbeats 2000000 in
/-- Window 24 after the body. -/
theorem sB_24 (f) : Rl m c 24 t ((ms0_24 t).view.read (Elt Ideal) ((ms0_24 t).view.writes (Elt Ideal) f (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.2.2.2.2.2.2.2.2.1)) := by
  rw [rl_24, LB24]
  exact close_24 m c t _ _

set_option maxHeartbeats 2000000 in
/-- Window 25 after the body. -/
theorem sB_25 (f) : Rl m c 25 t ((ms0_25 t).view.read (Elt Ideal) ((ms0_25 t).view.writes (Elt Ideal) f (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))).2.2.2.2.2.2.2.2.2.2.2.2.1)) := by
  rw [rl_25, LB25]
  exact close_25 m c t _ _

set_option maxHeartbeats 2000000 in
include h1 in
/-- The body at the second tile of a layer. -/
theorem sound_B :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12]
  have hc0 : ¬cond0_0 (grid0.coords t) := fun h => by have := (hcond0_0 t).mp h; omega
  have hc1 : ¬cond0_1 (grid0.coords t) := fun h => by have := (hcond0_1 t).mp h; omega
  have hc2 : cond0_2 (grid0.coords t) := (hcond0_2 t).mpr h1
  rw [Phi_castSucc m c t, PhiV_odd m c t h1, show (dats m 0 c).Φ t.succ = PhiV m c (t.val + 1) t.isLt from rfl, PhiV_even m c (t.val + 1) _ (by omega), PhiA0_eq]
  unfold scr
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, %hF13, H13⟩, ⟨%d14, %hF14, H14⟩, ⟨%d15, %hF15, H15⟩, ⟨%d16, %hF16, H16⟩, ⟨%d17, %hF17, H17⟩, ⟨%d18, %hF18, H18⟩, ⟨%d19, %hF19, H19⟩, ⟨%d20, %hF20, H20⟩, ⟨%d21, %hF21, H21⟩, ⟨%d22, %hF22, H22⟩, ⟨%d23, %hF23, H23⟩, ⟨%d24, %hF24, H24⟩, ⟨%d25, %hF25, H25⟩⟩
  obtain ⟨r, hr⟩ : ∃ r, r = (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (Memref.whole cc0_scratch0) (Memref.isWhole_whole _) (Memref.whole cc0_scratch1) (Memref.isWhole_whole _) (Memref.whole cc0_scratch2) (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d14 d15 d17 d19 d21 (k0_pay31 (F := Ideal) (iblk m c 4 t)) (k0_pay32 (F := Ideal) (iblk m c 8 t)) (k0_pay33 (F := Ideal) (iblk m c 10 t))) := ⟨_, rfl⟩
  have f13 : ∀ f, Rl m c 13 t ((ms0_13 t).view.read (Elt Ideal) ((ms0_13 t).view.writes (Elt Ideal) f r.1)) := by
    rw [hr]; exact sB_13 m c t hc0 hc1 hc2 d14 d15 d17 d19 d21
  have f14 : Rl m c 14 t ((ms0_14 t).view.read (Elt Ideal) ((ms0_14 t).view.writes (Elt Ideal) ((hs0_14 t).unread d14) r.2.1)) := by
    rw [hr]; exact sB_14 m c t h1 hc0 hc1 hc2 d14 d15 d17 d19 d21 hF14
  have f15 : Rl m c 15 t ((ms0_15 t).view.read (Elt Ideal) ((ms0_15 t).view.writes (Elt Ideal) ((hs0_15 t).unread d15) r.2.2.1)) := by
    rw [hr]; exact sB_15 m c t h1 hc0 hc1 hc2 d14 d15 d17 d19 d21 hF15
  have f16 : ∀ f, Rl m c 16 t ((ms0_16 t).view.read (Elt Ideal) ((ms0_16 t).view.writes (Elt Ideal) f r.2.2.2.1)) := by
    rw [hr]; exact sB_16 m c t hc0 hc1 hc2 d14 d15 d17 d19 d21
  have f17 : Rl m c 17 t ((ms0_17 t).view.read (Elt Ideal) ((ms0_17 t).view.writes (Elt Ideal) ((hs0_17 t).unread d17) r.2.2.2.2.1)) := by
    rw [hr]; exact sB_17 m c t h1 hc0 hc1 hc2 d14 d15 d17 d19 d21 hF17
  have f18 : ∀ f, Rl m c 18 t ((ms0_18 t).view.read (Elt Ideal) ((ms0_18 t).view.writes (Elt Ideal) f r.2.2.2.2.2.1)) := by
    rw [hr]; exact sB_18 m c t hc0 hc1 hc2 d14 d15 d17 d19 d21
  have f19 : Rl m c 19 t ((ms0_19 t).view.read (Elt Ideal) ((ms0_19 t).view.writes (Elt Ideal) ((hs0_19 t).unread d19) r.2.2.2.2.2.2.1)) := by
    rw [hr]; exact sB_19 m c t h1 hc0 hc1 hc2 d14 d15 d17 d19 d21 hF19
  have f20 : ∀ f, Rl m c 20 t ((ms0_20 t).view.read (Elt Ideal) ((ms0_20 t).view.writes (Elt Ideal) f r.2.2.2.2.2.2.2.1)) := by
    rw [hr]; exact sB_20 m c t hc0 hc1 hc2 d14 d15 d17 d19 d21
  have f21 : Rl m c 21 t ((ms0_21 t).view.read (Elt Ideal) ((ms0_21 t).view.writes (Elt Ideal) ((hs0_21 t).unread d21) r.2.2.2.2.2.2.2.2.1)) := by
    rw [hr]; exact sB_21 m c t h1 hc0 hc1 hc2 d14 d15 d17 d19 d21 hF21
  have f22 : ∀ f, Rl m c 22 t ((ms0_22 t).view.read (Elt Ideal) ((ms0_22 t).view.writes (Elt Ideal) f r.2.2.2.2.2.2.2.2.2.1)) := by
    rw [hr]; exact sB_22 m c t hc0 hc1 hc2 d14 d15 d17 d19 d21
  have f23 : ∀ f, Rl m c 23 t ((ms0_23 t).view.read (Elt Ideal) ((ms0_23 t).view.writes (Elt Ideal) f r.2.2.2.2.2.2.2.2.2.2.1)) := by
    rw [hr]; exact sB_23 m c t hc0 hc1 hc2 d14 d15 d17 d19 d21
  have f24 : ∀ f, Rl m c 24 t ((ms0_24 t).view.read (Elt Ideal) ((ms0_24 t).view.writes (Elt Ideal) f r.2.2.2.2.2.2.2.2.2.2.2.1)) := by
    rw [hr]; exact sB_24 m c t hc0 hc1 hc2 d14 d15 d17 d19 d21
  have f25 : ∀ f, Rl m c 25 t ((ms0_25 t).view.read (Elt Ideal) ((ms0_25 t).view.writes (Elt Ideal) f r.2.2.2.2.2.2.2.2.2.2.2.2.1)) := by
    rw [hr]; exact sB_25 m c t hc0 hc1 hc2 d14 d15 d17 d19 d21
  clear hr
  iapply (r.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexact H15
  isplitl [H16]; · iexists _; iexact H16
  isplitl [H17]; · iexact H17
  isplitl [H18]; · iexists _; iexact H18
  isplitl [H19]; · iexact H19
  isplitl [H20]; · iexists _; iexact H20
  isplitl [H21]; · iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  isplitl [HS2]; · iexact HS2
  iintro ⟨H0, H1, H2, H3, H4, H5, H6, H7, H8, H9, H10, H11, H12, ⟨%e13, H13⟩, H14, H15, ⟨%e16, H16⟩, H17, ⟨%e18, H18⟩, H19, ⟨%e20, H20⟩, H21, ⟨%e22, H22⟩, ⟨%e23, H23⟩, ⟨%e24, H24⟩, ⟨%e25, H25⟩, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr
    swap
    · unfold owns; iexists _; isplitr
      swap; · iexact H13
      ipureintro; rfl
    ipureintro
    exact f13 _
  isplitl [H14]
  · iexists _; isplitr
    swap
    · unfold owns; iexists _; isplitr
      swap; · iexact H14
      ipureintro; rfl
    ipureintro
    exact f14
  isplitl [H15]
  · iexists _; isplitr
    swap
    · unfold owns; iexists _; isplitr
      swap; · iexact H15
      ipureintro; rfl
    ipureintro
    exact f15
  isplitl [H16]
  · iexists _; isplitr
    swap
    · unfold owns; iexists _; isplitr
      swap; · iexact H16
      ipureintro; rfl
    ipureintro
    exact f16 _
  isplitl [H17]
  · iexists _; isplitr
    swap
    · unfold owns; iexists _; isplitr
      swap; · iexact H17
      ipureintro; rfl
    ipureintro
    exact f17
  isplitl [H18]
  · iexists _; isplitr
    swap
    · unfold owns; iexists _; isplitr
      swap; · iexact H18
      ipureintro; rfl
    ipureintro
    exact f18 _
  isplitl [H19]
  · iexists _; isplitr
    swap
    · unfold owns; iexists _; isplitr
      swap; · iexact H19
      ipureintro; rfl
    ipureintro
    exact f19
  isplitl [H20]
  · iexists _; isplitr
    swap
    · unfold owns; iexists _; isplitr
      swap; · iexact H20
      ipureintro; rfl
    ipureintro
    exact f20 _
  isplitl [H21]
  · iexists _; isplitr
    swap
    · unfold owns; iexists _; isplitr
      swap; · iexact H21
      ipureintro; rfl
    ipureintro
    exact f21
  isplitl [H22]
  · iexists _; isplitr
    swap
    · unfold owns; iexists _; isplitr
      swap; · iexact H22
      ipureintro; rfl
    ipureintro
    exact f22 _
  isplitl [H23]
  · iexists _; isplitr
    swap
    · unfold owns; iexists _; isplitr
      swap; · iexact H23
      ipureintro; rfl
    ipureintro
    exact f23 _
  isplitl [H24]
  · iexists _; isplitr
    swap
    · unfold owns; iexists _; isplitr
      swap; · iexact H24
      ipureintro; rfl
    ipureintro
    exact f24 _
  iexists _; isplitr
  swap
  · unfold owns; iexists _; isplitr
    swap; · iexact H25
    ipureintro; rfl
  ipureintro
  exact f25 _

end Cert.KernelIdeal.Val
-- ==== Proof.Spec.Out.lean ====
/- The thirteen results as functions of the call's arguments. -/
module

public import proofs.«01_k».proof.Proof.Spec.Row
public import Idealize.ShloMosaic.Lib.Pointwise

@[expose] public section

noncomputable section

namespace Cert.Spec

open Idealize Idealize.ShloMosaic

/-- Token `r` of tile `b`. -/
def half (b : Fin 2) (r : Fin 384) : Fin 768 := ⟨b.val * 384 + r.val, by omega⟩

variable (A : Args)

/-- The result `hout` of every layer and token. -/
def out13 : (⟨3, ![35, 768, 2048]⟩ : Shape).Idx → EReal := fun y => (A.row (y 0) (y 1)).hout (y 2)

/-- The result `seg` of every layer and token. -/
def out14 : (⟨3, ![35, 2, 384]⟩ : Shape).Idx → EReal := fun y => (A.row (y 0) (half (y 1) (y 2))).seg

/-- The result `post` of every layer and token. -/
def out15 : (⟨3, ![35, 2, 384]⟩ : Shape).Idx → EReal := fun y => (A.row (y 0) (half (y 1) (y 2))).post

/-- The result `cc` of every layer and token. -/
def out16 : (⟨4, ![2, 35, 384, 256]⟩ : Shape).Idx → BitVec 8 := fun y => Ideal.fptosi 8 ((A.row (y 1) (half (y 0) (y 2))).cc (y 3))

/-- The result `cs` of every layer and token. -/
def out17 : (⟨3, ![35, 2, 384]⟩ : Shape).Idx → EReal := fun y => (A.row (y 0) (half (y 1) (y 2))).cs

/-- The result `hc` of every layer and token. -/
def out18 : (⟨3, ![35, 768, 2048]⟩ : Shape).Idx → BitVec 8 := fun y => Ideal.fptosi 8 ((A.row (y 0) (y 1)).hc (y 2))

/-- The result `hs` of every layer and token. -/
def out19 : (⟨3, ![35, 2, 384]⟩ : Shape).Idx → EReal := fun y => (A.row (y 0) (half (y 1) (y 2))).hs

/-- The result `tc` of every layer and token. -/
def out20 : (⟨3, ![35, 768, 256]⟩ : Shape).Idx → BitVec 8 := fun y => Ideal.fptosi 8 ((A.row (y 0) (y 1)).tc (y 2))

/-- The result `ts` of every layer and token. -/
def out21 : (⟨3, ![35, 2, 384]⟩ : Shape).Idx → EReal := fun y => (A.row (y 0) (half (y 1) (y 2))).ts

/-- The result `p` of every layer and token. -/
def out22 : (⟨4, ![2, 35, 384, 256]⟩ : Shape).Idx → EReal := fun y => (A.row (y 1) (half (y 0) (y 2))).p (y 3)

/-- The result `gl` of every layer and token. -/
def out23 : (⟨3, ![35, 768, 256]⟩ : Shape).Idx → EReal := fun y => (A.row (y 0) (y 1)).gl (y 2)

/-- The result `t` of every layer and token. -/
def out24 : (⟨3, ![35, 768, 256]⟩ : Shape).Idx → EReal := fun y => (A.row (y 0) (y 1)).t (y 2)

/-- The result `y` of every layer and token. -/
def out25 : (⟨3, ![35, 768, 2048]⟩ : Shape).Idx → EReal := fun y => (A.row (y 0) (y 1)).y (y 2)

end Cert.Spec
-- ==== Proof.KVal.Arr.lean ====
/- What the pipeline's output arrays hold after the last point, given what every flushed buffer met. -/
module

public import proofs.«01_k».proof.Proof.KVal.Data
public import proofs.«01_k».proof.Proof.Spec.Out
public import Idealize.ShloMosaic.Lib.Pipeline.ArrRel
public import Idealize.ShloMosaic.Lib.Pipeline.ValueKit

@[expose] public section

set_option maxRecDepth 16384

noncomputable section

namespace Cert.KernelIdeal.Val

open Cert.KernelIdeal Cert.KernelIdeal.Gen Cert.Spec
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

local notation "𝕄" => MT nD τ sig Unit (Elt Ideal) ℕ (UR sig nD τ) ℕ

open Idealize.ShloMosaic.Pointwise

variable (m : (ℓ : Loc nD τ sig) → Buf (Elt Ideal) ℓ) (c : Dev nD)
  (after : (w : Fin cfg0.W) → Fin cfg0.N → (cfg0.win w).block.Idx → Elt Ideal (cfg0.win w).elt)
  (hL : ∀ (w : Fin cfg0.W) (u : Fin cfg0.N), (cfg0.win w).flush u = true → (rd m c).Leaves w u (after w u))

theorem at_13 (t : Fin cfg0.N) (r : Fin 384) (j : Fin 2048) : (rowOf m c t r).hout j = out13 (kargs m c) (ix3 (lay t) (tok t r) j) := rfl

set_option maxHeartbeats 400000 in
include hL in
/-- Output window 13's array. -/
theorem arr_13 : ((rd m c).withAfter after).arrAt 13 cfg0.N = out13 (kargs m c) := by
  refine Dat.arrAt_eq_of_covers _ 13 _ (by decide +kernel) fun t hf y => ?_
  have hR : Rl m c 13 t (after 13 t) := Dat.toRRel_leaves (dats m 0 c) (w := 13) rfl (hL 13 t hf)
  rw [rl_13] at hR
  have h := idxO t
  blk_simp
  have hi : (win0_13.blk t).view.emb y = (ix3 (lay t) (tok t (y 1)) (y 2) : S35x768x2048.Idx) := by blk_ext [h, lay, tok]
  rw [hi]
  exact (hR y).trans (at_13 m c t (y 1) (y 2))

theorem at_14 (t : Fin cfg0.N) (y : S1x2x384.Idx) : Row.seg (statRow m c t y) = out14 (kargs m c) (ix3 (lay t) (y 1) (y 2)) := rfl

set_option maxHeartbeats 400000 in
include hL in
/-- Output window 14's array. -/
theorem arr_14 : ((rd m c).withAfter after).arrAt 14 cfg0.N = out14 (kargs m c) := by
  refine Dat.arrAt_eq_of_covers _ 14 _ (by decide +kernel) fun t hf y => ?_
  have hR : Rl m c 14 t (after 14 t) := Dat.toRRel_leaves (dats m 0 c) (w := 14) rfl (hL 14 t hf)
  rw [rl_14] at hR
  have h := idxO t
  have h1 : t.val % 2 = 1 := (flush0_14 t).mp hf
  have hy : (y 1).val < 2 := (y 1).isLt
  blk_simp
  have hi : (win0_14.blk t).view.emb y = (ix3 (lay t) (y 1) (y 2) : S35x2x384.Idx) := by blk_ext [h, lay, tok]
  rw [hi]
  exact (hR y (by omega)).trans (at_14 m c t y)

theorem at_15 (t : Fin cfg0.N) (y : S1x2x384.Idx) : Row.post (statRow m c t y) = out15 (kargs m c) (ix3 (lay t) (y 1) (y 2)) := rfl

set_option maxHeartbeats 400000 in
include hL in
/-- Output window 15's array. -/
theorem arr_15 : ((rd m c).withAfter after).arrAt 15 cfg0.N = out15 (kargs m c) := by
  refine Dat.arrAt_eq_of_covers _ 15 _ (by decide +kernel) fun t hf y => ?_
  have hR : Rl m c 15 t (after 15 t) := Dat.toRRel_leaves (dats m 0 c) (w := 15) rfl (hL 15 t hf)
  rw [rl_15] at hR
  have h := idxO t
  have h1 : t.val % 2 = 1 := (flush0_15 t).mp hf
  have hy : (y 1).val < 2 := (y 1).isLt
  blk_simp
  have hi : (win0_15.blk t).view.emb y = (ix3 (lay t) (y 1) (y 2) : S35x2x384.Idx) := by blk_ext [h, lay, tok]
  rw [hi]
  exact (hR y (by omega)).trans (at_15 m c t y)

theorem at_16 (t : Fin cfg0.N) (r : Fin 384) (j : Fin 256) : Ideal.fptosi 8 ((rowOf m c t r).cc j) = out16 (kargs m c) (ix4 ⟨t.val % 2, by omega⟩ (lay t) r j) := rfl

set_option maxHeartbeats 400000 in
include hL in
/-- Output window 16's array. -/
theorem arr_16 : ((rd m c).withAfter after).arrAt 16 cfg0.N = out16 (kargs m c) := by
  refine Dat.arrAt_eq_of_covers _ 16 _ (by decide +kernel) fun t hf y => ?_
  have hR : Rl m c 16 t (after 16 t) := Dat.toRRel_leaves (dats m 0 c) (w := 16) rfl (hL 16 t hf)
  rw [rl_16] at hR
  have h := idxO t
  blk_simp
  have hi : (win0_16.blk t).view.emb y = (ix4 ⟨t.val % 2, by omega⟩ (lay t) (y 2) (y 3) : S2x35x384x256.Idx) := by blk_ext [h, lay, tok]
  rw [hi]
  exact (hR y).trans (at_16 m c t (y 2) (y 3))

theorem at_17 (t : Fin cfg0.N) (y : S1x2x384.Idx) : Row.cs (statRow m c t y) = out17 (kargs m c) (ix3 (lay t) (y 1) (y 2)) := rfl

set_option maxHeartbeats 400000 in
include hL in
/-- Output window 17's array. -/
theorem arr_17 : ((rd m c).withAfter after).arrAt 17 cfg0.N = out17 (kargs m c) := by
  refine Dat.arrAt_eq_of_covers _ 17 _ (by decide +kernel) fun t hf y => ?_
  have hR : Rl m c 17 t (after 17 t) := Dat.toRRel_leaves (dats m 0 c) (w := 17) rfl (hL 17 t hf)
  rw [rl_17] at hR
  have h := idxO t
  have h1 : t.val % 2 = 1 := (flush0_17 t).mp hf
  have hy : (y 1).val < 2 := (y 1).isLt
  blk_simp
  have hi : (win0_17.blk t).view.emb y = (ix3 (lay t) (y 1) (y 2) : S35x2x384.Idx) := by blk_ext [h, lay, tok]
  rw [hi]
  exact (hR y (by omega)).trans (at_17 m c t y)

theorem at_18 (t : Fin cfg0.N) (r : Fin 384) (j : Fin 2048) : Ideal.fptosi 8 ((rowOf m c t r).hc j) = out18 (kargs m c) (ix3 (lay t) (tok t r) j) := rfl

set_option maxHeartbeats 400000 in
include hL in
/-- Output window 18's array. -/
theorem arr_18 : ((rd m c).withAfter after).arrAt 18 cfg0.N = out18 (kargs m c) := by
  refine Dat.arrAt_eq_of_covers _ 18 _ (by decide +kernel) fun t hf y => ?_
  have hR : Rl m c 18 t (after 18 t) := Dat.toRRel_leaves (dats m 0 c) (w := 18) rfl (hL 18 t hf)
  rw [rl_18] at hR
  have h := idxO t
  blk_simp
  have hi : (win0_18.blk t).view.emb y = (ix3 (lay t) (tok t (y 1)) (y 2) : S35x768x2048.Idx) := by blk_ext [h, lay, tok]
  rw [hi]
  exact (hR y).trans (at_18 m c t (y 1) (y 2))

theorem at_19 (t : Fin cfg0.N) (y : S1x2x384.Idx) : Row.hs (statRow m c t y) = out19 (kargs m c) (ix3 (lay t) (y 1) (y 2)) := rfl

set_option maxHeartbeats 400000 in
include hL in
/-- Output window 19's array. -/
theorem arr_19 : ((rd m c).withAfter after).arrAt 19 cfg0.N = out19 (kargs m c) := by
  refine Dat.arrAt_eq_of_covers _ 19 _ (by decide +kernel) fun t hf y => ?_
  have hR : Rl m c 19 t (after 19 t) := Dat.toRRel_leaves (dats m 0 c) (w := 19) rfl (hL 19 t hf)
  rw [rl_19] at hR
  have h := idxO t
  have h1 : t.val % 2 = 1 := (flush0_19 t).mp hf
  have hy : (y 1).val < 2 := (y 1).isLt
  blk_simp
  have hi : (win0_19.blk t).view.emb y = (ix3 (lay t) (y 1) (y 2) : S35x2x384.Idx) := by blk_ext [h, lay, tok]
  rw [hi]
  exact (hR y (by omega)).trans (at_19 m c t y)

theorem at_20 (t : Fin cfg0.N) (r : Fin 384) (j : Fin 256) : Ideal.fptosi 8 ((rowOf m c t r).tc j) = out20 (kargs m c) (ix3 (lay t) (tok t r) j) := rfl

set_option maxHeartbeats 400000 in
include hL in
/-- Output window 20's array. -/
theorem arr_20 : ((rd m c).withAfter after).arrAt 20 cfg0.N = out20 (kargs m c) := by
  refine Dat.arrAt_eq_of_covers _ 20 _ (by decide +kernel) fun t hf y => ?_
  have hR : Rl m c 20 t (after 20 t) := Dat.toRRel_leaves (dats m 0 c) (w := 20) rfl (hL 20 t hf)
  rw [rl_20] at hR
  have h := idxO t
  blk_simp
  have hi : (win0_20.blk t).view.emb y = (ix3 (lay t) (tok t (y 1)) (y 2) : S35x768x256.Idx) := by blk_ext [h, lay, tok]
  rw [hi]
  exact (hR y).trans (at_20 m c t (y 1) (y 2))

theorem at_21 (t : Fin cfg0.N) (y : S1x2x384.Idx) : Row.ts (statRow m c t y) = out21 (kargs m c) (ix3 (lay t) (y 1) (y 2)) := rfl

set_option maxHeartbeats 400000 in
include hL in
/-- Output window 21's array. -/
theorem arr_21 : ((rd m c).withAfter after).arrAt 21 cfg0.N = out21 (kargs m c) := by
  refine Dat.arrAt_eq_of_covers _ 21 _ (by decide +kernel) fun t hf y => ?_
  have hR : Rl m c 21 t (after 21 t) := Dat.toRRel_leaves (dats m 0 c) (w := 21) rfl (hL 21 t hf)
  rw [rl_21] at hR
  have h := idxO t
  have h1 : t.val % 2 = 1 := (flush0_21 t).mp hf
  have hy : (y 1).val < 2 := (y 1).isLt
  blk_simp
  have hi : (win0_21.blk t).view.emb y = (ix3 (lay t) (y 1) (y 2) : S35x2x384.Idx) := by blk_ext [h, lay, tok]
  rw [hi]
  exact (hR y (by omega)).trans (at_21 m c t y)

theorem at_22 (t : Fin cfg0.N) (r : Fin 384) (j : Fin 256) : (rowOf m c t r).p j = out22 (kargs m c) (ix4 ⟨t.val % 2, by omega⟩ (lay t) r j) := rfl

set_option maxHeartbeats 400000 in
include hL in
/-- Output window 22's array. -/
theorem arr_22 : ((rd m c).withAfter after).arrAt 22 cfg0.N = out22 (kargs m c) := by
  refine Dat.arrAt_eq_of_covers _ 22 _ (by decide +kernel) fun t hf y => ?_
  have hR : Rl m c 22 t (after 22 t) := Dat.toRRel_leaves (dats m 0 c) (w := 22) rfl (hL 22 t hf)
  rw [rl_22] at hR
  have h := idxO t
  blk_simp
  have hi : (win0_22.blk t).view.emb y = (ix4 ⟨t.val % 2, by omega⟩ (lay t) (y 2) (y 3) : S2x35x384x256.Idx) := by blk_ext [h, lay, tok]
  rw [hi]
  exact (hR y).trans (at_22 m c t (y 2) (y 3))

theorem at_23 (t : Fin cfg0.N) (r : Fin 384) (j : Fin 256) : (rowOf m c t r).gl j = out23 (kargs m c) (ix3 (lay t) (tok t r) j) := rfl

set_option maxHeartbeats 400000 in
include hL in
/-- Output window 23's array. -/
theorem arr_23 : ((rd m c).withAfter after).arrAt 23 cfg0.N = out23 (kargs m c) := by
  refine Dat.arrAt_eq_of_covers _ 23 _ (by decide +kernel) fun t hf y => ?_
  have hR : Rl m c 23 t (after 23 t) := Dat.toRRel_leaves (dats m 0 c) (w := 23) rfl (hL 23 t hf)
  rw [rl_23] at hR
  have h := idxO t
  blk_simp
  have hi : (win0_23.blk t).view.emb y = (ix3 (lay t) (tok t (y 1)) (y 2) : S35x768x256.Idx) := by blk_ext [h, lay, tok]
  rw [hi]
  exact (hR y).trans (at_23 m c t (y 1) (y 2))

theorem at_24 (t : Fin cfg0.N) (r : Fin 384) (j : Fin 256) : (rowOf m c t r).t j = out24 (kargs m c) (ix3 (lay t) (tok t r) j) := rfl

set_option maxHeartbeats 400000 in
include hL in
/-- Output window 24's array. -/
theorem arr_24 : ((rd m c).withAfter after).arrAt 24 cfg0.N = out24 (kargs m c) := by
  refine Dat.arrAt_eq_of_covers _ 24 _ (by decide +kernel) fun t hf y => ?_
  have hR : Rl m c 24 t (after 24 t) := Dat.toRRel_leaves (dats m 0 c) (w := 24) rfl (hL 24 t hf)
  rw [rl_24] at hR
  have h := idxO t
  blk_simp
  have hi : (win0_24.blk t).view.emb y = (ix3 (lay t) (tok t (y 1)) (y 2) : S35x768x256.Idx) := by blk_ext [h, lay, tok]
  rw [hi]
  exact (hR y).trans (at_24 m c t (y 1) (y 2))

theorem at_25 (t : Fin cfg0.N) (r : Fin 384) (j : Fin 2048) : (rowOf m c t r).y j = out25 (kargs m c) (ix3 (lay t) (tok t r) j) := rfl

set_option maxHeartbeats 400000 in
include hL in
/-- Output window 25's array. -/
theorem arr_25 : ((rd m c).withAfter after).arrAt 25 cfg0.N = out25 (kargs m c) := by
  refine Dat.arrAt_eq_of_covers _ 25 _ (by decide +kernel) fun t hf y => ?_
  have hR : Rl m c 25 t (after 25 t) := Dat.toRRel_leaves (dats m 0 c) (w := 25) rfl (hL 25 t hf)
  rw [rl_25] at hR
  have h := idxO t
  blk_simp
  have hi : (win0_25.blk t).view.emb y = (ix3 (lay t) (tok t (y 1)) (y 2) : S35x768x2048.Idx) := by blk_ext [h, lay, tok]
  rw [hi]
  exact (hR y).trans (at_25 m c t (y 1) (y 2))

end Cert.KernelIdeal.Val
-- ==== Proof.KVal.Fin.lean ====
/- The kernel's run at the ideal values: what it leaves in its arguments and its results. -/
module

public import proofs.«01_k».proof.Proof.KVal.OblA
public import proofs.«01_k».proof.Proof.KVal.OblB
public import proofs.«01_k».proof.Proof.KVal.Arr

@[expose] public section

set_option maxRecDepth 16384

noncomputable section

namespace Cert.KernelIdeal.Val

open Cert.KernelIdeal Cert.KernelIdeal.Gen Cert.Spec
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable (m : (ℓ : Loc nD τ sig) → Buf (Elt Ideal) ℓ) (ρ : Dev nD → PrngReg)

/-- The body at any grid point. -/
theorem sound (c : Dev nD) (t : Fin cfg0.N) :
    bodyPre m c t ⊢ wp frame (wpE (defs₀ (F := Ideal)) Variants.none c none) Set.univ (bodyAt0 t) (fun _ => bodyPost m c t) := by
  rcases Nat.mod_two_eq_zero_or_one t.val with h | h
  · exact sound_A m c t h
  · exact sound_B m c t h

/-- The body table's row at a point is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, the outputs held to `Rl`. -/
theorem body_obligation (c : Dev nD) : BodyObligationRel (dats m 0 c) (defs₀ (F := Ideal)) Variants.none () Set.univ fgt (Rl m c) := fun t => by
  rw [bigSep_W0, bigSep_W0, defs₀_row]
  exact sound m c t

theorem hin (c : Dev nD) : Pipeline.ΦA spec0 c ⊢ (dats m 0 c).Φ 0 := by
  rw [show (dats m 0 c).Φ 0 = PhiV m c 0 (Nat.zero_le _) from rfl, PhiV_even m c 0 _ rfl]

theorem hout (c : Dev nD) : (dats m 0 c).Φ (Fin.last cfg0.N) ⊢ Pipeline.ΦA spec0 c := by
  rw [show (dats m 0 c).Φ (Fin.last cfg0.N) = PhiV m c cfg0.N (Nat.le_refl _) from rfl,
    PhiV_even m c _ _ (by decide : cfg0.N % 2 = 0)]

set_option backward.isDefEq.respectTransparency.types false in
/-- The run: every array of the pipeline as the proof data relates it, and every semaphore counter at zero. -/
theorem run_quiescent : θ_run defs (onTc (τ := τ) (main (F := Ideal))) (s₀ m ρ)
    (fun r => (Pipeline.RDat.FramePost (cfgs 0) (fun c => rd m c) (V m)) r ∧ r.2.sem = fun _ => 0) :=
  Pipeline.RDat.θ_run_frame_track (Q' := _) cfgs (0 : Fin 1) launch0 defs₀ Variants.none (fun c => rd m c) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h0 c => by
    have h := h0.1
    exact ⟨((Pipeline.RDat.FramePost.arr_in h c 0 rfl).trans ((A_eq m c 0).trans (V_main_arg0 m c))),
      ((Pipeline.RDat.FramePost.arr_in h c 1 rfl).trans ((A_eq m c 1).trans (V_main_arg1 m c))),
      ((Pipeline.RDat.FramePost.arr_in h c 2 rfl).trans ((A_eq m c 2).trans (V_main_arg2 m c))),
      ((Pipeline.RDat.FramePost.arr_in h c 3 rfl).trans ((A_eq m c 3).trans (V_main_arg3 m c))),
      (((h c).2 main_arg4 (Pipeline.mem_restRefs_of main_arg4 (by decide) (by decide))).trans (V_main_arg4 m c)),
      ((Pipeline.RDat.FramePost.arr_in h c 5 rfl).trans ((A_eq m c 5).trans (V_main_arg5 m c))),
      (((h c).2 main_arg6 (Pipeline.mem_restRefs_of main_arg6 (by decide) (by decide))).trans (V_main_arg6 m c)),
      (((h c).2 main_arg7 (Pipeline.mem_restRefs_of main_arg7 (by decide) (by decide))).trans (V_main_arg7 m c)),
      ((Pipeline.RDat.FramePost.arr_in h c 8 rfl).trans ((A_eq m c 8).trans (V_main_arg8 m c))),
      ((Pipeline.RDat.FramePost.arr_in h c 9 rfl).trans ((A_eq m c 9).trans (V_main_arg9 m c))),
      ((Pipeline.RDat.FramePost.arr_in h c 10 rfl).trans ((A_eq m c 10).trans (V_main_arg10 m c))),
      ((Pipeline.RDat.FramePost.arr_in h c 11 rfl).trans ((A_eq m c 11).trans (V_main_arg11 m c))),
      ((Pipeline.RDat.FramePost.arr_in h c 12 rfl).trans ((A_eq m c 12).trans (V_main_arg12 m c)))⟩) (run_quiescent m ρ)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_quiescent m ρ))

set_option maxHeartbeats 2000000 in
/-- The results. -/
theorem results : θ_run defs (onTc (τ := τ) (main (F := Ideal))) ⟨m, fun _ => 0, ρ⟩ (fun r => ∀ c : Dev nD,
      r.2.mem ((c.tc : Thread nD τ).loc main_v3_0) = out13 (kargs m c)
      ∧ r.2.mem ((c.tc : Thread nD τ).loc main_v3_1) = out14 (kargs m c)
      ∧ r.2.mem ((c.tc : Thread nD τ).loc main_v3_2) = out15 (kargs m c)
      ∧ r.2.mem ((c.tc : Thread nD τ).loc main_v3_3) = out16 (kargs m c)
      ∧ r.2.mem ((c.tc : Thread nD τ).loc main_v3_4) = out17 (kargs m c)
      ∧ r.2.mem ((c.tc : Thread nD τ).loc main_v3_5) = out18 (kargs m c)
      ∧ r.2.mem ((c.tc : Thread nD τ).loc main_v3_6) = out19 (kargs m c)
      ∧ r.2.mem ((c.tc : Thread nD τ).loc main_v3_7) = out20 (kargs m c)
      ∧ r.2.mem ((c.tc : Thread nD τ).loc main_v3_8) = out21 (kargs m c)
      ∧ r.2.mem ((c.tc : Thread nD τ).loc main_v3_9) = out22 (kargs m c)
      ∧ r.2.mem ((c.tc : Thread nD τ).loc main_v3_10) = out23 (kargs m c)
      ∧ r.2.mem ((c.tc : Thread nD τ).loc main_v3_11) = out24 (kargs m c)
      ∧ r.2.mem ((c.tc : Thread nD τ).loc main_v3_12) = out25 (kargs m c)) :=
  (θ_run defs _ _).mono (fun r h0 c => by
    obtain ⟨after, hL, hA⟩ := Pipeline.RDat.FramePost.exists_exact h0.1 c
    exact ⟨(hA 13).trans (arr_13 m c after hL),
      (hA 14).trans (arr_14 m c after hL),
      (hA 15).trans (arr_15 m c after hL),
      (hA 16).trans (arr_16 m c after hL),
      (hA 17).trans (arr_17 m c after hL),
      (hA 18).trans (arr_18 m c after hL),
      (hA 19).trans (arr_19 m c after hL),
      (hA 20).trans (arr_20 m c after hL),
      (hA 21).trans (arr_21 m c after hL),
      (hA 22).trans (arr_22 m c after hL),
      (hA 23).trans (arr_23 m c after hL),
      (hA 24).trans (arr_24 m c after hL),
      (hA 25).trans (arr_25 m c after hL)⟩) (run_quiescent m ρ)

end Cert.KernelIdeal.Val
-- ==== Proof.Spec.Whole.lean ====
/- The call's arguments, read from the thirteen arrays it is given. -/
module

public import proofs.«01_k».proof.Proof.Spec.Row
public import Idealize.ShloMosaic.Lib.Pointwise

@[expose] public section

noncomputable section

namespace Cert.Spec

open Idealize Idealize.ShloMosaic

/-- The arguments by token, layer and channel, from the arrays as they are passed: the projection's weights have the input channel
    first, and the hidden states come in two tiles of 384 tokens. -/
def argsOf (a0 : (⟨2, ![768, 2048]⟩ : Shape).Idx → BitVec 8) (a1 : (⟨2, ![768, 128]⟩ : Shape).Idx → EReal)
    (a2 : (⟨3, ![35, 768, 128]⟩ : Shape).Idx → BitVec 8) (a3 : (⟨2, ![768, 128]⟩ : Shape).Idx → EReal)
    (a4 : (⟨3, ![2048, 35, 256]⟩ : Shape).Idx → BitVec 8) (a5 : (⟨2, ![35, 256]⟩ : Shape).Idx → EReal)
    (a6 : (⟨1, ![256]⟩ : Shape).Idx → EReal) (a7 : (⟨4, ![35, 2, 384, 2048]⟩ : Shape).Idx → EReal)
    (a8 : (⟨3, ![35, 2048, 256]⟩ : Shape).Idx → BitVec 8) (a9 : (⟨2, ![35, 256]⟩ : Shape).Idx → EReal)
    (a10 : (⟨3, ![35, 256, 2048]⟩ : Shape).Idx → BitVec 8) (a11 : (⟨2, ![35, 2048]⟩ : Shape).Idx → EReal)
    (a12 : (⟨2, ![35, 2048]⟩ : Shape).Idx → EReal) : Args where
  ec r k := a0 (ix2 r k)
  es r := a1 (ix2 r 0)
  pb l r k := a2 (ix3 l r k)
  ps r k := a3 (ix2 r k)
  wp l k j := a4 (ix3 k l j)
  wps l j := a5 (ix2 l j)
  gs j := a6 (ix1 j)
  h l r k := a7 (ix4 l ⟨r.val / 384, by omega⟩ ⟨r.val % 384, by omega⟩ k)
  wg l k j := a8 (ix3 l k j)
  wgs l j := a9 (ix2 l j)
  wo l k j := a10 (ix3 l k j)
  wos l j := a11 (ix2 l j)
  gp l j := a12 (ix2 l j)

end Cert.Spec
-- ==== Proof.KVal.Whole.lean ====
/- The kernel's arguments as the region finds them, from the arrays the call was given. -/
module

public import proofs.«01_k».proof.Proof.KVal.Spec
public import proofs.«01_k».proof.Proof.Spec.Whole
public import Idealize.ShloMosaic.Lib.Pipeline.ValueKit

@[expose] public section

noncomputable section

namespace Cert.KernelIdeal.Val

open Cert.KernelIdeal Cert.KernelIdeal.Gen Cert.Spec
open Idealize Idealize.ShloMosaic Idealize.ShloMosaic.TcCoe Idealize.ShloMosaic.Tactic Idealize.ShloMosaic.Pointwise

variable (m : (ℓ : Loc nD τ sig) → Buf (Elt Ideal) ℓ) (c : Dev nD)

theorem v0_at (l : Fin 35) (k : Fin 2048) (j : Fin 256) :
    (V m c main_v0 : Vec Ideal S35x2048x256 .i8) (ix3 l k j) = (m ((c.tc : Thread nD τ).loc main_arg4) : Vec Ideal S2048x35x256 .i8) (ix3 k l j) := by
  entry_read
  refine transpose_apply _ _ _ _ _ fun b => ?_
  match b with
  | ⟨0, _⟩ => rfl
  | ⟨1, _⟩ => rfl
  | ⟨2, _⟩ => rfl

theorem v1_at (j : Fin 256) :
    (V m c main_v1 : Vec Ideal S1x256 .f32) (ix2 0 j) = (m ((c.tc : Thread nD τ).loc main_arg6) : Vec Ideal S256 .f32) (ix1 j) := by
  entry_read
  refine shapeCast_apply (s := S256) (t := S1x256) _ _ _ _ ?_
  rw [Shape.rowMajor_val_one, Shape.rowMajor_val_two]
  show j.val = 0 * 256 + j.val
  omega

theorem v2_at (l : Fin 35) (r : Fin 768) (k : Fin 2048) :
    (V m c main_v2 : Vec Ideal S35x768x2048 .bf16) (ix3 l r k)
      = (m ((c.tc : Thread nD τ).loc main_arg7) : Vec Ideal S35x2x384x2048 .bf16) (ix4 l ⟨r.val / 384, by omega⟩ ⟨r.val % 384, by omega⟩ k) := by
  entry_read
  refine shapeCast_apply (s := S35x2x384x2048) (t := S35x768x2048) _ _ _ _ ?_
  rw [Shape.rowMajor_val_four, Shape.rowMajor_val_three]
  show ((l.val * 2 + r.val / 384) * 384 + r.val % 384) * 2048 + k.val = (l.val * 768 + r.val) * 2048 + k.val
  omega

/-- The kernel's arguments, from the arrays the call was given. -/
theorem kargs_eq : kargs m c = argsOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) := by
  unfold kargs argsOf
  rw [V_main_arg0 m c, V_main_arg1 m c, V_main_arg2 m c, V_main_arg3 m c, V_main_arg5 m c, V_main_arg8 m c, V_main_arg9 m c, V_main_arg10 m c,
    V_main_arg11 m c, V_main_arg12 m c]
  have e0 : (fun l k j => (V m c main_v0 : Vec Ideal S35x2048x256 .i8) (ix3 l k j))
      = fun l k j => (m ((c.tc : Thread nD τ).loc main_arg4) : Vec Ideal S2048x35x256 .i8) (ix3 k l j) :=
    funext fun l => funext fun k => funext fun j => v0_at m c l k j
  have e1 : (fun j => (V m c main_v1 : Vec Ideal S1x256 .f32) (ix2 0 j)) = fun j => (m ((c.tc : Thread nD τ).loc main_arg6) : Vec Ideal S256 .f32) (ix1 j) :=
    funext fun j => v1_at m c j
  have e2 : (fun l r k => (V m c main_v2 : Vec Ideal S35x768x2048 .bf16) (ix3 l r k))
      = fun (l : Fin 35) (r : Fin 768) k => (m ((c.tc : Thread nD τ).loc main_arg7) : Vec Ideal S35x2x384x2048 .bf16) (ix4 l ⟨r.val / 384, by omega⟩ ⟨r.val % 384, by omega⟩ k) :=
    funext fun l => funext fun r => funext fun k => v2_at m c l r k
  rw [e0, e1, e2]

end Cert.KernelIdeal.Val
-- ==== Proof.RVal.Block.lean ====
/- What the reference computes from its arguments, read at an index: the row's mathematics of `Cert.Spec.Row`. -/
module

public import proofs.«01_k».proof.Proof.Gen.ReferenceIdeal.Skeleton
public import proofs.«01_k».proof.Proof.Spec.Laws
public import Idealize.ShloMosaic.Lib.Pointwise

@[expose] public section

set_option maxRecDepth 16384

noncomputable section

namespace Cert.ReferenceIdeal.Val

open Idealize Idealize.ShloMosaic Idealize.ShloMosaic.Pointwise
open Cert.ReferenceIdeal Cert.ReferenceIdeal.Gen Cert.Spec

/-- What the reference's body loads. -/
structure Loads where
  ec : Vec Ideal S768x2048 .i8
  es : Vec Ideal S768x128 .f32
  pb : Vec Ideal S35x768x128 .i8
  ps : Vec Ideal S768x128 .f32
  wp : Vec Ideal S35x2048x256 .i8
  wps : Vec Ideal S35x256 .f32
  gs : Vec Ideal S256 .f32
  h : Vec Ideal S35x768x2048 .bf16
  wg : Vec Ideal S35x2048x256 .i8
  wgs : Vec Ideal S35x256 .f32
  wo : Vec Ideal S35x256x2048 .i8
  wos : Vec Ideal S35x2048 .f32
  gp : Vec Ideal S35x2048 .f32

namespace Loads

variable (B : Loads)

def p := k0_pay2 B.ec B.wp B.es B.wps
def seg := k0_pay3 B.ec B.wp B.es B.wps
def pn := k0_pay4 B.ec B.wp B.es B.wps B.gs
def byt := k0_pay5 B.pb
def low := k0_pay6 B.pb
def comb := k0_pay7 B.pn B.byt B.low B.ps
def cs := k0_pay8 B.pn B.byt B.low B.ps
def cc := k0_pay9 B.pn B.byt B.low B.ps
def hf := k0_pay10 B.h
def hs := k0_pay11 B.h
def hc := k0_pay12 B.h
def gl := k0_pay13 B.h B.wg B.wgs
def act := k0_pay14 B.h B.wg B.wgs
def t := k0_pay16 B.cs B.cc B.gl B.act k0_pay15
def ts := k0_pay17 B.cs B.cc B.gl B.act k0_pay15
def tc := k0_pay18 B.cs B.cc B.gl B.act k0_pay15
def y := k0_pay19 B.cs B.cc B.gl B.act k0_pay15 B.wo B.wos
def post := k0_pay20 B.cs B.cc B.gl B.act k0_pay15 B.wo B.wos
def postc := k0_pay21 B.cs B.cc B.gl B.act k0_pay15 B.wo B.wos
def hout := k0_pay22 B.hf B.y B.postc B.gp

/-- The loads by token, layer and channel. -/
def args : Args where
  ec t k := B.ec (ix2 t k)
  es t := B.es (ix2 t 0)
  wp l k c := B.wp (ix3 l k c)
  wps l c := B.wps (ix2 l c)
  gs c := B.gs (ix1 c)
  pb l t k := B.pb (ix3 l t k)
  ps t l := B.ps (ix2 t l)
  h l t k := B.h (ix3 l t k)
  wg l k c := B.wg (ix3 l k c)
  wgs l c := B.wgs (ix2 l c)
  wo l k c := B.wo (ix3 l k c)
  wos l c := B.wos (ix2 l c)
  gp l c := B.gp (ix2 l c)

abbrev row (l : Fin 35) (t : Fin 768) : Row := B.args.row l t

variable (l : Fin 35) (r : Fin 768)

theorem p_at (c : Fin 256) : B.p (ix3 l r c) = (B.row l r).p c := by
  unfold p
  pointwise [k0_pay2]
  rfl

theorem seg_at : B.seg (ix2 l r) = (B.row l r).seg := by
  unfold seg
  pointwise [k0_pay3]
  simp only [show ∀ c, k0_pay2 B.ec B.wp B.es B.wps (ix3 l r c) = (B.row l r).p c from B.p_at l r]
  rfl

theorem pn_at (c : Fin 256) : B.pn (ix3 l r c) = Ideal.div ((B.row l r).p c) (B.row l r).seg * (B.row l r).gs c := by
  unfold pn
  pointwise [k0_pay4]
  rw [show k0_pay2 B.ec B.wp B.es B.wps (ix3 l r c) = (B.row l r).p c from B.p_at l r c,
    show k0_pay3 B.ec B.wp B.es B.wps (ix2 l r) = (B.row l r).seg from B.seg_at l r]
  rfl

theorem comb_at (c : Fin 256) : B.comb (ix3 l r c) = (B.row l r).comb c := by
  unfold comb byt low
  pointwise [k0_pay7, k0_pay6, k0_pay5]
  rw [pn_at]
  rfl

theorem int_127 : int 127#32 = lit 0x42FE0000#32 := by
  rw [lit_127]; show (((127#32 : BitVec 32).toInt : ℝ) : EReal) = _
  rw [show (127#32 : BitVec 32).toInt = 127 from by decide]; norm_num

theorem int_neg_127 : int 4294967169#32 = lit 0xC2FE0000#32 := by
  rw [lit_neg_127]; show (((4294967169#32 : BitVec 32).toInt : ℝ) : EReal) = _
  rw [show (4294967169#32 : BitVec 32).toInt = -127 from by decide]; norm_num

/-! ### The quantiser's steps, of any array -/

theorem max256_at (z : FVec Ideal S35x768x256 .f32) :
    multiReduction .maximumf [2] S35x768 (absf z) 0xFF800000#32 reduces_S35x768x256_S35x768 (.inl rfl) rfl (ix2 l r)
      = amax fun c => z (ix3 l r c) := by
  pointwise
  rfl

theorem max2048_at (z : FVec Ideal S35x768x2048 .f32) :
    multiReduction .maximumf [2] S35x768 (absf z) 0xFF800000#32 reduces_S35x768x2048_S35x768 (.inl rfl) rfl (ix2 l r)
      = amax fun c => z (ix3 l r c) := by
  pointwise
  rfl

theorem scale_at (u : FVec Ideal S35x768 .f32) :
    select (cmpf .oeq u (broadcast S35x768 (Scalar.ofBits .f32 0x00000000#32)))
        (broadcast S35x768 (Scalar.ofBits .f32 0x3F800000#32))
        (divf u (broadcast S35x768 (Scalar.ofBits .f32 0x42FE0000#32))) (ix2 l r) = scaleOf (u (ix2 l r)) := by
  pointwise
  rfl

theorem quant256_at (z : FVec Ideal S35x768x256 .f32) (s : FVec Ideal S35x768 .f32) (c : Fin 256) :
    fptosi 8 (minimumf (broadcast S35x768x256 (Scalar.sitofp .f32 127#32))
        (maximumf (broadcast S35x768x256 (Scalar.sitofp .f32 4294967169#32))
          (roundeven (divf z (broadcastTo S35x768x256 (shapeCast S35x768x1 s shapeCasts_S35x768_S35x768x1)
            broadcasts_S35x768x1_S35x768x256))))) (ix3 l r c)
      = Ideal.fptosi 8 (quant (z (ix3 l r c)) (s (ix2 l r))) := by
  pointwise
  rw [show (((127#32 : BitVec 32).toInt : ℝ) : EReal) = _ from int_127,
    show (((4294967169#32 : BitVec 32).toInt : ℝ) : EReal) = _ from int_neg_127]
  rfl

theorem quant2048_at (z : FVec Ideal S35x768x2048 .f32) (s : FVec Ideal S35x768 .f32) (c : Fin 2048) :
    fptosi 8 (minimumf (broadcast S35x768x2048 (Scalar.sitofp .f32 127#32))
        (maximumf (broadcast S35x768x2048 (Scalar.sitofp .f32 4294967169#32))
          (roundeven (divf z (broadcastTo S35x768x2048 (shapeCast S35x768x1 s shapeCasts_S35x768_S35x768x1)
            broadcasts_S35x768x1_S35x768x2048))))) (ix3 l r c)
      = Ideal.fptosi 8 (quant (z (ix3 l r c)) (s (ix2 l r))) := by
  pointwise
  rw [show (((127#32 : BitVec 32).toInt : ℝ) : EReal) = _ from int_127,
    show (((4294967169#32 : BitVec 32).toInt : ℝ) : EReal) = _ from int_neg_127]
  rfl

theorem of_code (v s : EReal) (ft : FTy) : FloatOps.sitofp (F := Ideal) ft (Ideal.fptosi 8 (quant v s)) = quant v s := by
  exact int_quant v s

/-! ### The stages -/

theorem cs_at : B.cs (ix2 l r) = (B.row l r).cs := by
  unfold cs k0_pay8
  dsimp only
  rw [scale_at, max256_at]
  exact congrArg scaleOf (congrArg amax (funext fun c => B.comb_at l r c))

theorem cc_at (c : Fin 256) : B.cc (ix3 l r c) = Ideal.fptosi 8 ((B.row l r).cc c) := by
  unfold cc k0_pay9
  rw [quant256_at]
  exact (congrArg (Ideal.fptosi 8) (congrArg₂ quant (B.comb_at l r c) (B.cs_at l r)))

theorem hf_at (c : Fin 2048) : B.hf (ix3 l r c) = (B.row l r).h c := by
  unfold hf
  pointwise [k0_pay10]
  rfl

theorem hs_at : B.hs (ix2 l r) = (B.row l r).hs := by
  unfold hs k0_pay11
  dsimp only
  rw [scale_at, max2048_at]
  exact congrArg scaleOf (congrArg amax (funext fun c => B.hf_at l r c))

theorem hc_at (c : Fin 2048) : B.hc (ix3 l r c) = Ideal.fptosi 8 ((B.row l r).hc c) := by
  unfold hc k0_pay12
  rw [quant2048_at]
  exact (congrArg (Ideal.fptosi 8) (congrArg₂ quant (B.hf_at l r c) (B.hs_at l r)))

theorem dot256_at (x : IVec S35x768x2048 8) (g : Vec Ideal S35x2048x256 .i8) (c : Fin 256) :
    matmul dot_S35x768x2048_S35x2048x256_S35x768x256_2_1_1_2_0_0 none (sitofp .bf16 x : FVec Ideal S35x768x2048 .bf16)
      (sitofp .bf16 g : FVec Ideal S35x2048x256 .bf16) (constant S35x768x256 .f32 0x00000000#32) (ix3 l r c)
      = ∑ k, FloatOps.sitofp (F := Ideal) FTy.bf16 (x (ix3 l r k)) * int (g (ix3 l k c)) := by
  pointwise
  rfl

theorem scaled256_at (m : FVec Ideal S35x768x256 .f32) (s : FVec Ideal S35x768 .f32) (w : FVec Ideal S35x256 .f32) (c : Fin 256) :
    mulf (mulf m (broadcastTo S35x768x256 (shapeCast S35x768x1 s shapeCasts_S35x768_S35x768x1)
        broadcasts_S35x768x1_S35x768x256))
      (broadcastTo S35x768x256 (shapeCast S35x1x256 w shapeCasts_S35x256_S35x1x256) broadcasts_S35x1x256_S35x768x256)
      (ix3 l r c) = m (ix3 l r c) * s (ix2 l r) * w (ix2 l c) := by
  pointwise

theorem gl_at (c : Fin 256) : B.gl (ix3 l r c) = (B.row l r).gl c := by
  have h1 : ∀ c, k0_pay12 B.h (ix3 l r c) = Ideal.fptosi 8 (quant ((B.row l r).h c) (B.row l r).hs) := B.hc_at l r
  have h2 : k0_pay11 B.h (ix2 l r) = (B.row l r).hs := B.hs_at l r
  unfold gl k0_pay13
  generalize k0_pay12 B.h = x at h1 ⊢
  generalize k0_pay11 B.h = s at h2 ⊢
  rw [scaled256_at, dot256_at]
  simp only [h1, h2, of_code]
  rfl

theorem act_at (g : FVec Ideal S35x768x256 .f32) (j : S35x768x256.Idx) :
    addf (broadcast S35x768x256 (Scalar.ofBits .f32 0x3F800000#32)) (tanh (mulf (broadcast S35x768x256 (Scalar.ofBits .f32 0x3F4C422A#32))
      (addf g (mulf (broadcast S35x768x256 (Scalar.ofBits .f32 0x3D372713#32)) (mulf g (mulf g g)))))) j
      = lit 0x3F800000#32 + Ideal.tanh (lit 0x3F4C422A#32 * (g j + lit 0x3D372713#32 * (g j * (g j * g j)))) := rfl

theorem gated_at (s : FVec Ideal S35x768 .f32) (x : IVec S35x768x256 8) (g a : FVec Ideal S35x768x256 .f32) (c : Fin 256) :
    k0_pay16 s x g a k0_pay15 (ix3 l r c)
      = g (ix3 l r c) * (lit 0x3F000000#32 * a (ix3 l r c)) * (FloatOps.sitofp (F := Ideal) FTy.f32 (x (ix3 l r c)) * s (ix2 l r)) := by
  pointwise [k0_pay16, k0_pay15]

theorem t_at (c : Fin 256) : B.t (ix3 l r c) = (B.row l r).t c := by
  have h1 : B.cc (ix3 l r c) = Ideal.fptosi 8 (quant ((B.row l r).comb c) (B.row l r).cs) := B.cc_at l r c
  have h2 := B.cs_at l r
  have h3 := B.gl_at l r c
  have h4 : B.act (ix3 l r c) = lit 0x3F800000#32 + Ideal.tanh (lit 0x3F4C422A#32
      * (B.gl (ix3 l r c) + lit 0x3D372713#32 * (B.gl (ix3 l r c) * (B.gl (ix3 l r c) * B.gl (ix3 l r c))))) := by
    unfold act gl k0_pay14
    generalize k0_pay13 B.h B.wg B.wgs = g
    rw [act_at]
  unfold t
  rw [gated_at, h1, h2, h4, h3, of_code]
  rfl

theorem ts_at : B.ts (ix2 l r) = (B.row l r).ts := by
  unfold ts k0_pay17
  dsimp only
  rw [scale_at, max256_at]
  exact congrArg scaleOf (congrArg amax (funext fun c => B.t_at l r c))

theorem tc_at (c : Fin 256) : B.tc (ix3 l r c) = Ideal.fptosi 8 ((B.row l r).tc c) := by
  unfold tc k0_pay18
  rw [quant256_at]
  exact (congrArg (Ideal.fptosi 8) (congrArg₂ quant (B.t_at l r c) (B.ts_at l r)))

theorem dot2048_at (x : IVec S35x768x256 8) (g : Vec Ideal S35x256x2048 .i8) (c : Fin 2048) :
    matmul dot_S35x768x256_S35x256x2048_S35x768x2048_2_1_1_2_0_0 none (sitofp .bf16 x : FVec Ideal S35x768x256 .bf16)
      (sitofp .bf16 g : FVec Ideal S35x256x2048 .bf16) (constant S35x768x2048 .f32 0x00000000#32) (ix3 l r c)
      = ∑ k, FloatOps.sitofp (F := Ideal) FTy.bf16 (x (ix3 l r k)) * int (g (ix3 l k c)) := by
  pointwise
  rfl

theorem scaled2048_at (m : FVec Ideal S35x768x2048 .f32) (s : FVec Ideal S35x768 .f32) (w : FVec Ideal S35x2048 .f32) (c : Fin 2048) :
    mulf (mulf m (broadcastTo S35x768x2048 (shapeCast S35x768x1 s shapeCasts_S35x768_S35x768x1)
        broadcasts_S35x768x1_S35x768x2048))
      (broadcastTo S35x768x2048 (shapeCast S35x1x2048 w shapeCasts_S35x2048_S35x1x2048) broadcasts_S35x1x2048_S35x768x2048)
      (ix3 l r c) = m (ix3 l r c) * s (ix2 l r) * w (ix2 l c) := by
  pointwise

theorem y_at (c : Fin 2048) : B.y (ix3 l r c) = (B.row l r).y c := by
  have h1 : ∀ c, k0_pay18 B.cs B.cc B.gl B.act k0_pay15 (ix3 l r c)
      = Ideal.fptosi 8 (quant ((B.row l r).t c) (B.row l r).ts) := B.tc_at l r
  have h2 : k0_pay17 B.cs B.cc B.gl B.act k0_pay15 (ix2 l r) = (B.row l r).ts := B.ts_at l r
  unfold y k0_pay19
  generalize k0_pay18 B.cs B.cc B.gl B.act k0_pay15 = x at h1 ⊢
  generalize k0_pay17 B.cs B.cc B.gl B.act k0_pay15 = s at h2 ⊢
  rw [scaled2048_at, dot2048_at]
  simp only [h1, h2, of_code]
  rfl

theorem rms2048_at (z : FVec Ideal S35x768x2048 .f32) :
    sqrt (addf (divf (multiReduction .add [2] S35x768 (mulf z z) 0x00000000#32 reduces_S35x768x2048_S35x768 (.inl rfl) rfl)
      (broadcast S35x768 (Scalar.ofBits .f32 0x45000000#32))) (broadcast S35x768 (Scalar.ofBits .f32 0x358637BD#32))) (ix2 l r)
      = rmsOf (∑ c, z (ix3 l r c) * z (ix3 l r c)) (lit 0x45000000#32) := by
  pointwise
  rfl

theorem post_at : B.post (ix2 l r) = (B.row l r).post := by
  have h : ∀ c, k0_pay19 B.cs B.cc B.gl B.act k0_pay15 B.wo B.wos (ix3 l r c) = (B.row l r).y c := B.y_at l r
  unfold post k0_pay20
  generalize k0_pay19 B.cs B.cc B.gl B.act k0_pay15 B.wo B.wos = y at h ⊢
  rw [rms2048_at]
  simp only [h]
  rfl

theorem hout_at (c : Fin 2048) : B.hout (ix3 l r c) = (B.row l r).hout c := by
  have h1 := B.hf_at l r c
  have h2 := B.y_at l r c
  have h3 : k0_pay20 B.cs B.cc B.gl B.act k0_pay15 B.wo B.wos (ix2 l r) = (B.row l r).post := B.post_at l r
  unfold hout postc k0_pay21 k0_pay22
  generalize k0_pay20 B.cs B.cc B.gl B.act k0_pay15 B.wo B.wos = q at h3 ⊢
  generalize B.hf = f at h1 ⊢
  generalize B.y = y at h2 ⊢
  pointwise
  simp only [h1, h2, h3]
  rfl

end Loads

end Cert.ReferenceIdeal.Val
-- ==== Proof.RVal.Outs.lean ====
/- Each array the reference writes, as the mathematics of its rows. -/
module

public import proofs.«01_k».proof.Proof.Gen.ReferenceIdeal.Frame
public import proofs.«01_k».proof.Proof.RVal.Block
public import proofs.«01_k».proof.Proof.Spec.Out
public import Idealize.ShloMosaic.Lib.Pipeline.ValueKit

@[expose] public section

set_option maxRecDepth 16384

noncomputable section

namespace Cert.ReferenceIdeal.Val

open Idealize Idealize.ShloMosaic Idealize.ShloMosaic.Pointwise
open Cert.ReferenceIdeal Cert.ReferenceIdeal.Gen Cert.Spec

/-- A table by layer and token, read with the tokens in two tiles. -/
theorem tiles2_at (v : FVec Ideal S35x768 .f32) (y : S35x2x384.Idx) :
    shapeCast S35x2x384 v shapeCasts_S35x768_S35x2x384 y = v (ix2 (y 0) (half (y 1) (y 2))) := by
  refine shapeCast_apply _ _ _ _ ?_
  rw [Shape.rowMajor_val_two, Shape.rowMajor_val_three]
  show (y 0).val * 768 + ((y 1).val * 384 + (y 2).val) = ((y 0).val * 2 + (y 1).val) * 384 + (y 2).val
  omega

/-- A table by layer, token and channel, read with the tokens in two tiles, the tile first. -/
theorem tiles3_at {α : Type} (v : S35x768x256.Idx → α) (y : S2x35x384x256.Idx) :
    transpose S2x35x384x256 [1, 0, 2, 3] (shapeCast S35x2x384x256 v shapeCasts_S35x768x256_S35x2x384x256)
      transposes_S35x2x384x256_p1_0_2_3_S2x35x384x256 y = v (ix3 (y 1) (half (y 0) (y 2)) (y 3)) := by
  refine (transpose_apply _ _ _ y (ix4 (y 1) (y 0) (y 2) (y 3) : S35x2x384x256.Idx) fun b => ?_).trans ?_
  · match b with
    | ⟨0, _⟩ => rfl
    | ⟨1, _⟩ => rfl
    | ⟨2, _⟩ => rfl
    | ⟨3, _⟩ => rfl
  refine shapeCast_apply _ _ _ _ ?_
  rw [Shape.rowMajor_val_three, Shape.rowMajor_val_four]
  show ((y 1).val * 768 + ((y 0).val * 384 + (y 2).val)) * 256 + (y 3).val = (((y 1).val * 2 + (y 0).val) * 384 + (y 2).val) * 256 + (y 3).val
  omega

variable (x0 : Vec Ideal S768x2048 .i8) (x1 : Vec Ideal S768x128 .f32) (x2 : Vec Ideal S35x768x128 .i8) (x3 : Vec Ideal S768x128 .f32) (x4 : Vec Ideal S35x2048x256 .i8) (x5 : Vec Ideal S35x256 .f32) (x6 : Vec Ideal S256 .f32) (x7 : Vec Ideal S35x768x2048 .bf16) (x8 : Vec Ideal S35x2048x256 .i8) (x9 : Vec Ideal S35x256 .f32) (x10 : Vec Ideal S35x256x2048 .i8) (x11 : Vec Ideal S35x2048 .f32) (x12 : Vec Ideal S35x2048 .f32)

/-- The reference's loads from its arguments. -/
abbrev ofx : Loads := ⟨x0, x1, x2, x3, x4, x5, x6, x7, x8, x9, x10, x11, x12⟩

theorem ld_x0 : View.ld x0 r0_0 = x0 := View.ld_unit_lit _ _ (by decide)
theorem ld_x4 : View.ld x4 r0_1 = x4 := View.ld_unit_lit _ _ (by decide)
theorem ld_x1 : View.ld x1 r0_2 = x1 := View.ld_unit_lit _ _ (by decide)
theorem ld_x5 : View.ld x5 r0_3 = x5 := View.ld_unit_lit _ _ (by decide)
theorem ld_x6 : View.ld x6 r0_4 = x6 := View.ld_unit_lit _ _ (by decide)
theorem ld_x2 : View.ld x2 r0_5 = x2 := View.ld_unit_lit _ _ (by decide)
theorem ld_x3 : View.ld x3 r0_2 = x3 := View.ld_unit_lit _ _ (by decide)
theorem ld_x7 : View.ld x7 r0_6 = x7 := View.ld_unit_lit _ _ (by decide)
theorem ld_x8 : View.ld x8 r0_1 = x8 := View.ld_unit_lit _ _ (by decide)
theorem ld_x9 : View.ld x9 r0_3 = x9 := View.ld_unit_lit _ _ (by decide)
theorem ld_x10 : View.ld x10 r0_7 = x10 := View.ld_unit_lit _ _ (by decide)
theorem ld_x11 : View.ld x11 r0_8 = x11 := View.ld_unit_lit _ _ (by decide)
theorem ld_x12 : View.ld x12 r0_8 = x12 := View.ld_unit_lit _ _ (by decide)

theorem st_29 : k0_pay29 x0 x1 x2 x3 x4 x5 x6 x7 x8 x9 x10 x11 x12 = (ofx x0 x1 x2 x3 x4 x5 x6 x7 x8 x9 x10 x11 x12).pn := by
  unfold k0_pay29
  rw [ld_x0, ld_x4, ld_x1, ld_x5, ld_x6]
  rfl

theorem st_30 : k0_pay30 x0 x1 x2 x3 x4 x5 x6 x7 x8 x9 x10 x11 x12 = (ofx x0 x1 x2 x3 x4 x5 x6 x7 x8 x9 x10 x11 x12).byt := by
  unfold k0_pay30
  rw [ld_x2]
  rfl

theorem st_31 : k0_pay31 x0 x1 x2 x3 x4 x5 x6 x7 x8 x9 x10 x11 x12 = (ofx x0 x1 x2 x3 x4 x5 x6 x7 x8 x9 x10 x11 x12).low := by
  unfold k0_pay31
  rw [ld_x2]
  rfl

theorem st_32 : k0_pay32 x0 x1 x2 x3 x4 x5 x6 x7 x8 x9 x10 x11 x12 = (ofx x0 x1 x2 x3 x4 x5 x6 x7 x8 x9 x10 x11 x12).cs := by
  unfold k0_pay32
  rw [st_29, st_30, st_31, ld_x3]
  rfl

theorem st_33 : k0_pay33 x0 x1 x2 x3 x4 x5 x6 x7 x8 x9 x10 x11 x12 = (ofx x0 x1 x2 x3 x4 x5 x6 x7 x8 x9 x10 x11 x12).cc := by
  unfold k0_pay33
  rw [st_29, st_30, st_31, ld_x3]
  rfl

theorem st_34 : k0_pay34 x0 x1 x2 x3 x4 x5 x6 x7 x8 x9 x10 x11 x12 = (ofx x0 x1 x2 x3 x4 x5 x6 x7 x8 x9 x10 x11 x12).gl := by
  unfold k0_pay34
  rw [ld_x7, ld_x8, ld_x9]
  rfl

theorem st_35 : k0_pay35 x0 x1 x2 x3 x4 x5 x6 x7 x8 x9 x10 x11 x12 = (ofx x0 x1 x2 x3 x4 x5 x6 x7 x8 x9 x10 x11 x12).act := by
  unfold k0_pay35
  rw [ld_x7, ld_x8, ld_x9]
  rfl

theorem st_37 : k0_pay37 x0 x1 x2 x3 x4 x5 x6 x7 x8 x9 x10 x11 x12 = (ofx x0 x1 x2 x3 x4 x5 x6 x7 x8 x9 x10 x11 x12).y := by
  unfold k0_pay37
  rw [st_32, st_33, st_34, st_35, ld_x10, ld_x11]
  rfl

set_option maxHeartbeats 1000000 in
/-- Output 13 of the reference. -/
theorem ro_13 : out0_13 x0 x1 x2 x3 x4 x5 x6 x7 x8 x9 x10 x11 x12 = out13 (ofx x0 x1 x2 x3 x4 x5 x6 x7 x8 x9 x10 x11 x12).args := by
  funext y
  unfold out0_13
  rw [View.canon_cons_unit_lit _ _ _ (by decide), ld_x7, st_37, st_32, st_33, st_34, st_35, ld_x10, ld_x11, ld_x12]
  refine (congrArg (ofx x0 x1 x2 x3 x4 x5 x6 x7 x8 x9 x10 x11 x12).hout (eq_ix3 y)).trans ?_
  exact (ofx x0 x1 x2 x3 x4 x5 x6 x7 x8 x9 x10 x11 x12).hout_at (y 0) (y 1) (y 2)

set_option maxHeartbeats 1000000 in
/-- Output 14 of the reference. -/
theorem ro_14 : out0_14 x0 x1 x2 x3 x4 x5 x6 x7 x8 x9 x10 x11 x12 = out14 (ofx x0 x1 x2 x3 x4 x5 x6 x7 x8 x9 x10 x11 x12).args := by
  funext y
  unfold out0_14
  rw [View.canon_cons_unit_lit _ _ _ (by decide), ld_x0, ld_x4, ld_x1, ld_x5]
  exact (tiles2_at (ofx x0 x1 x2 x3 x4 x5 x6 x7 x8 x9 x10 x11 x12).seg y).trans ((ofx x0 x1 x2 x3 x4 x5 x6 x7 x8 x9 x10 x11 x12).seg_at (y 0) (half (y 1) (y 2)))

set_option maxHeartbeats 1000000 in
/-- Output 15 of the reference. -/
theorem ro_15 : out0_15 x0 x1 x2 x3 x4 x5 x6 x7 x8 x9 x10 x11 x12 = out15 (ofx x0 x1 x2 x3 x4 x5 x6 x7 x8 x9 x10 x11 x12).args := by
  funext y
  unfold out0_15
  rw [View.canon_cons_unit_lit _ _ _ (by decide), st_32, st_33, st_34, st_35, ld_x10, ld_x11]
  exact (tiles2_at (ofx x0 x1 x2 x3 x4 x5 x6 x7 x8 x9 x10 x11 x12).post y).trans ((ofx x0 x1 x2 x3 x4 x5 x6 x7 x8 x9 x10 x11 x12).post_at (y 0) (half (y 1) (y 2)))

set_option maxHeartbeats 1000000 in
/-- Output 16 of the reference. -/
theorem ro_16 : out0_16 x0 x1 x2 x3 x4 x5 x6 x7 x8 x9 x10 x11 x12 = out16 (ofx x0 x1 x2 x3 x4 x5 x6 x7 x8 x9 x10 x11 x12).args := by
  funext y
  unfold out0_16
  rw [View.canon_cons_unit_lit _ _ _ (by decide), st_33]
  exact (tiles3_at (ofx x0 x1 x2 x3 x4 x5 x6 x7 x8 x9 x10 x11 x12).cc y).trans ((ofx x0 x1 x2 x3 x4 x5 x6 x7 x8 x9 x10 x11 x12).cc_at (y 1) (half (y 0) (y 2)) (y 3))

set_option maxHeartbeats 1000000 in
/-- Output 17 of the reference. -/
theorem ro_17 : out0_17 x0 x1 x2 x3 x4 x5 x6 x7 x8 x9 x10 x11 x12 = out17 (ofx x0 x1 x2 x3 x4 x5 x6 x7 x8 x9 x10 x11 x12).args := by
  funext y
  unfold out0_17
  rw [View.canon_cons_unit_lit _ _ _ (by decide), st_32]
  exact (tiles2_at (ofx x0 x1 x2 x3 x4 x5 x6 x7 x8 x9 x10 x11 x12).cs y).trans ((ofx x0 x1 x2 x3 x4 x5 x6 x7 x8 x9 x10 x11 x12).cs_at (y 0) (half (y 1) (y 2)))

set_option maxHeartbeats 1000000 in
/-- Output 18 of the reference. -/
theorem ro_18 : out0_18 x0 x1 x2 x3 x4 x5 x6 x7 x8 x9 x10 x11 x12 = out18 (ofx x0 x1 x2 x3 x4 x5 x6 x7 x8 x9 x10 x11 x12).args := by
  funext y
  unfold out0_18
  rw [View.canon_cons_unit_lit _ _ _ (by decide), ld_x7]
  refine (congrArg (ofx x0 x1 x2 x3 x4 x5 x6 x7 x8 x9 x10 x11 x12).hc (eq_ix3 y)).trans ?_
  exact (ofx x0 x1 x2 x3 x4 x5 x6 x7 x8 x9 x10 x11 x12).hc_at (y 0) (y 1) (y 2)

set_option maxHeartbeats 1000000 in
/-- Output 19 of the reference. -/
theorem ro_19 : out0_19 x0 x1 x2 x3 x4 x5 x6 x7 x8 x9 x10 x11 x12 = out19 (ofx x0 x1 x2 x3 x4 x5 x6 x7 x8 x9 x10 x11 x12).args := by
  funext y
  unfold out0_19
  rw [View.canon_cons_unit_lit _ _ _ (by decide), ld_x7]
  exact (tiles2_at (ofx x0 x1 x2 x3 x4 x5 x6 x7 x8 x9 x10 x11 x12).hs y).trans ((ofx x0 x1 x2 x3 x4 x5 x6 x7 x8 x9 x10 x11 x12).hs_at (y 0) (half (y 1) (y 2)))

set_option maxHeartbeats 1000000 in
/-- Output 20 of the reference. -/
theorem ro_20 : out0_20 x0 x1 x2 x3 x4 x5 x6 x7 x8 x9 x10 x11 x12 = out20 (ofx x0 x1 x2 x3 x4 x5 x6 x7 x8 x9 x10 x11 x12).args := by
  funext y
  unfold out0_20
  rw [View.canon_cons_unit_lit _ _ _ (by decide), st_32, st_33, st_34, st_35]
  refine (congrArg (ofx x0 x1 x2 x3 x4 x5 x6 x7 x8 x9 x10 x11 x12).tc (eq_ix3 y)).trans ?_
  exact (ofx x0 x1 x2 x3 x4 x5 x6 x7 x8 x9 x10 x11 x12).tc_at (y 0) (y 1) (y 2)

set_option maxHeartbeats 1000000 in
/-- Output 21 of the reference. -/
theorem ro_21 : out0_21 x0 x1 x2 x3 x4 x5 x6 x7 x8 x9 x10 x11 x12 = out21 (ofx x0 x1 x2 x3 x4 x5 x6 x7 x8 x9 x10 x11 x12).args := by
  funext y
  unfold out0_21
  rw [View.canon_cons_unit_lit _ _ _ (by decide), st_32, st_33, st_34, st_35]
  exact (tiles2_at (ofx x0 x1 x2 x3 x4 x5 x6 x7 x8 x9 x10 x11 x12).ts y).trans ((ofx x0 x1 x2 x3 x4 x5 x6 x7 x8 x9 x10 x11 x12).ts_at (y 0) (half (y 1) (y 2)))

set_option maxHeartbeats 1000000 in
/-- Output 22 of the reference. -/
theorem ro_22 : out0_22 x0 x1 x2 x3 x4 x5 x6 x7 x8 x9 x10 x11 x12 = out22 (ofx x0 x1 x2 x3 x4 x5 x6 x7 x8 x9 x10 x11 x12).args := by
  funext y
  unfold out0_22
  rw [View.canon_cons_unit_lit _ _ _ (by decide), ld_x0, ld_x4, ld_x1, ld_x5]
  exact (tiles3_at (ofx x0 x1 x2 x3 x4 x5 x6 x7 x8 x9 x10 x11 x12).p y).trans ((ofx x0 x1 x2 x3 x4 x5 x6 x7 x8 x9 x10 x11 x12).p_at (y 1) (half (y 0) (y 2)) (y 3))

set_option maxHeartbeats 1000000 in
/-- Output 23 of the reference. -/
theorem ro_23 : out0_23 x0 x1 x2 x3 x4 x5 x6 x7 x8 x9 x10 x11 x12 = out23 (ofx x0 x1 x2 x3 x4 x5 x6 x7 x8 x9 x10 x11 x12).args := by
  funext y
  unfold out0_23
  rw [View.canon_cons_unit_lit _ _ _ (by decide), st_34]
  refine (congrArg (ofx x0 x1 x2 x3 x4 x5 x6 x7 x8 x9 x10 x11 x12).gl (eq_ix3 y)).trans ?_
  exact (ofx x0 x1 x2 x3 x4 x5 x6 x7 x8 x9 x10 x11 x12).gl_at (y 0) (y 1) (y 2)

set_option maxHeartbeats 1000000 in
/-- Output 24 of the reference. -/
theorem ro_24 : out0_24 x0 x1 x2 x3 x4 x5 x6 x7 x8 x9 x10 x11 x12 = out24 (ofx x0 x1 x2 x3 x4 x5 x6 x7 x8 x9 x10 x11 x12).args := by
  funext y
  unfold out0_24
  rw [View.canon_cons_unit_lit _ _ _ (by decide), st_32, st_33, st_34, st_35]
  refine (congrArg (ofx x0 x1 x2 x3 x4 x5 x6 x7 x8 x9 x10 x11 x12).t (eq_ix3 y)).trans ?_
  exact (ofx x0 x1 x2 x3 x4 x5 x6 x7 x8 x9 x10 x11 x12).t_at (y 0) (y 1) (y 2)

set_option maxHeartbeats 1000000 in
/-- Output 25 of the reference. -/
theorem ro_25 : out0_25 x0 x1 x2 x3 x4 x5 x6 x7 x8 x9 x10 x11 x12 = out25 (ofx x0 x1 x2 x3 x4 x5 x6 x7 x8 x9 x10 x11 x12).args := by
  funext y
  unfold out0_25
  rw [View.canon_cons_unit_lit _ _ _ (by decide), st_37]
  refine (congrArg (ofx x0 x1 x2 x3 x4 x5 x6 x7 x8 x9 x10 x11 x12).y (eq_ix3 y)).trans ?_
  exact (ofx x0 x1 x2 x3 x4 x5 x6 x7 x8 x9 x10 x11 x12).y_at (y 0) (y 1) (y 2)

end Cert.ReferenceIdeal.Val
-- ==== Proof.RVal.Fin.lean ====
/- The arrays the reference ends with. -/
module

public import proofs.«01_k».proof.Proof.RVal.Outs

@[expose] public section

set_option maxRecDepth 16384

noncomputable section

namespace Cert.ReferenceIdeal.Val

open Cert.ReferenceIdeal Cert.ReferenceIdeal.Gen Cert.Spec
open Idealize Idealize.ShloMosaic Idealize.ShloMosaic.TcCoe Idealize.ShloMosaic.Tactic Idealize.ShloMosaic.Pointwise
open Idealize.SL Idealize.SL.Sem
open Idealize.ShloMosaic.Pipeline (Dat RDat Cfg Window)

variable (m : (ℓ : Loc nD τ sig) → Buf (Elt Ideal) ℓ) (c : Dev nD)

/-- Every window takes its array whole. -/
theorem idx : ∀ t : Fin cfg0.N, win0_0.index t = ![0, 0] ∧ win0_1.index t = ![0, 0] ∧ win0_2.index t = ![0, 0, 0] ∧ win0_3.index t = ![0, 0] ∧ win0_4.index t = ![0, 0, 0] ∧ win0_5.index t = ![0, 0] ∧ win0_6.index t = ![0] ∧ win0_7.index t = ![0, 0, 0] ∧ win0_8.index t = ![0, 0, 0] ∧ win0_9.index t = ![0, 0] ∧ win0_10.index t = ![0, 0, 0] ∧ win0_11.index t = ![0, 0] ∧ win0_12.index t = ![0, 0] :=
  (by decide +kernel : ∀ t : Fin grid0.N, _)

/-- Every window takes its array whole. -/
theorem idxO : ∀ t : Fin cfg0.N, win0_13.index t = ![0, 0, 0] ∧ win0_14.index t = ![0, 0, 0] ∧ win0_15.index t = ![0, 0, 0] ∧ win0_16.index t = ![0, 0, 0, 0] ∧ win0_17.index t = ![0, 0, 0] ∧ win0_18.index t = ![0, 0, 0] ∧ win0_19.index t = ![0, 0, 0] ∧ win0_20.index t = ![0, 0, 0] ∧ win0_21.index t = ![0, 0, 0] ∧ win0_22.index t = ![0, 0, 0, 0] ∧ win0_23.index t = ![0, 0, 0] ∧ win0_24.index t = ![0, 0, 0] ∧ win0_25.index t = ![0, 0, 0] :=
  (by decide +kernel : ∀ t : Fin grid0.N, _)

/-- Window 0's block is its array. -/
theorem whole_0 (t : Fin cfg0.N) : (iblk m c 0 t : Vec Ideal S768x2048 .i8) = V m c main_arg0 := by
  funext y
  unfold iblk
  refine congrArg (V m c main_arg0 : Vec Ideal S768x2048 .i8) ?_
  have h := idx t
  blk_ext [h]

/-- Window 1's block is its array. -/
theorem whole_1 (t : Fin cfg0.N) : (iblk m c 1 t : Vec Ideal S768x128 .f32) = V m c main_arg1 := by
  funext y
  unfold iblk
  refine congrArg (V m c main_arg1 : Vec Ideal S768x128 .f32) ?_
  have h := idx t
  blk_ext [h]

/-- Window 2's block is its array. -/
theorem whole_2 (t : Fin cfg0.N) : (iblk m c 2 t : Vec Ideal S35x768x128 .i8) = V m c main_arg2 := by
  funext y
  unfold iblk
  refine congrArg (V m c main_arg2 : Vec Ideal S35x768x128 .i8) ?_
  have h := idx t
  blk_ext [h]

/-- Window 3's block is its array. -/
theorem whole_3 (t : Fin cfg0.N) : (iblk m c 3 t : Vec Ideal S768x128 .f32) = V m c main_arg3 := by
  funext y
  unfold iblk
  refine congrArg (V m c main_arg3 : Vec Ideal S768x128 .f32) ?_
  have h := idx t
  blk_ext [h]

/-- Window 4's block is its array. -/
theorem whole_4 (t : Fin cfg0.N) : (iblk m c 4 t : Vec Ideal S35x2048x256 .i8) = V m c main_v0 := by
  funext y
  unfold iblk
  refine congrArg (V m c main_v0 : Vec Ideal S35x2048x256 .i8) ?_
  have h := idx t
  blk_ext [h]

/-- Window 5's block is its array. -/
theorem whole_5 (t : Fin cfg0.N) : (iblk m c 5 t : Vec Ideal S35x256 .f32) = V m c main_arg5 := by
  funext y
  unfold iblk
  refine congrArg (V m c main_arg5 : Vec Ideal S35x256 .f32) ?_
  have h := idx t
  blk_ext [h]

/-- Window 6's block is its array. -/
theorem whole_6 (t : Fin cfg0.N) : (iblk m c 6 t : Vec Ideal S256 .f32) = V m c main_arg6 := by
  funext y
  unfold iblk
  refine congrArg (V m c main_arg6 : Vec Ideal S256 .f32) ?_
  have h := idx t
  blk_ext [h]

/-- Window 7's block is its array. -/
theorem whole_7 (t : Fin cfg0.N) : (iblk m c 7 t : Vec Ideal S35x768x2048 .bf16) = V m c main_v1 := by
  funext y
  unfold iblk
  refine congrArg (V m c main_v1 : Vec Ideal S35x768x2048 .bf16) ?_
  have h := idx t
  blk_ext [h]

/-- Window 8's block is its array. -/
theorem whole_8 (t : Fin cfg0.N) : (iblk m c 8 t : Vec Ideal S35x2048x256 .i8) = V m c main_arg8 := by
  funext y
  unfold iblk
  refine congrArg (V m c main_arg8 : Vec Ideal S35x2048x256 .i8) ?_
  have h := idx t
  blk_ext [h]

/-- Window 9's block is its array. -/
theorem whole_9 (t : Fin cfg0.N) : (iblk m c 9 t : Vec Ideal S35x256 .f32) = V m c main_arg9 := by
  funext y
  unfold iblk
  refine congrArg (V m c main_arg9 : Vec Ideal S35x256 .f32) ?_
  have h := idx t
  blk_ext [h]

/-- Window 10's block is its array. -/
theorem whole_10 (t : Fin cfg0.N) : (iblk m c 10 t : Vec Ideal S35x256x2048 .i8) = V m c main_arg10 := by
  funext y
  unfold iblk
  refine congrArg (V m c main_arg10 : Vec Ideal S35x256x2048 .i8) ?_
  have h := idx t
  blk_ext [h]

/-- Window 11's block is its array. -/
theorem whole_11 (t : Fin cfg0.N) : (iblk m c 11 t : Vec Ideal S35x2048 .f32) = V m c main_arg11 := by
  funext y
  unfold iblk
  refine congrArg (V m c main_arg11 : Vec Ideal S35x2048 .f32) ?_
  have h := idx t
  blk_ext [h]

/-- Window 12's block is its array. -/
theorem whole_12 (t : Fin cfg0.N) : (iblk m c 12 t : Vec Ideal S35x2048 .f32) = V m c main_arg12 := by
  funext y
  unfold iblk
  refine congrArg (V m c main_arg12 : Vec Ideal S35x2048 .f32) ?_
  have h := idx t
  blk_ext [h]

/-- What the reference loads, from the arguments as the region finds them. -/
def rloads : Loads := ofx (V m c main_arg0) (V m c main_arg1) (V m c main_arg2) (V m c main_arg3) (V m c main_v0) (V m c main_arg5) (V m c main_arg6) (V m c main_v1) (V m c main_arg8) (V m c main_arg9) (V m c main_arg10) (V m c main_arg11) (V m c main_arg12)

set_option maxHeartbeats 1000000 in
/-- Output window 13's array. -/
theorem arr_13 : (dats m 0 c).arrAt 13 cfg0.N = out13 (rloads m c).args := by
  refine Dat.arrAt_eq_of_covers _ 13 _ (by decide +kernel) fun t hf y => ?_
  have hR := after0_13 m c t
  rw [ro_13, whole_0, whole_1, whole_2, whole_3, whole_4, whole_5, whole_6, whole_7, whole_8, whole_9, whole_10, whole_11, whole_12] at hR
  have h := idxO t
  blk_simp
  refine (congrFun hR y).trans (congrArg (out13 (rloads m c).args) (?_ : y = _))
  blk_ext [h]

set_option maxHeartbeats 1000000 in
/-- Output window 14's array. -/
theorem arr_14 : (dats m 0 c).arrAt 14 cfg0.N = out14 (rloads m c).args := by
  refine Dat.arrAt_eq_of_covers _ 14 _ (by decide +kernel) fun t hf y => ?_
  have hR := after0_14 m c t
  rw [ro_14, whole_0, whole_1, whole_2, whole_3, whole_4, whole_5, whole_6, whole_7, whole_8, whole_9, whole_10, whole_11, whole_12] at hR
  have h := idxO t
  blk_simp
  refine (congrFun hR y).trans (congrArg (out14 (rloads m c).args) (?_ : y = _))
  blk_ext [h]

set_option maxHeartbeats 1000000 in
/-- Output window 15's array. -/
theorem arr_15 : (dats m 0 c).arrAt 15 cfg0.N = out15 (rloads m c).args := by
  refine Dat.arrAt_eq_of_covers _ 15 _ (by decide +kernel) fun t hf y => ?_
  have hR := after0_15 m c t
  rw [ro_15, whole_0, whole_1, whole_2, whole_3, whole_4, whole_5, whole_6, whole_7, whole_8, whole_9, whole_10, whole_11, whole_12] at hR
  have h := idxO t
  blk_simp
  refine (congrFun hR y).trans (congrArg (out15 (rloads m c).args) (?_ : y = _))
  blk_ext [h]

set_option maxHeartbeats 1000000 in
/-- Output window 16's array. -/
theorem arr_16 : (dats m 0 c).arrAt 16 cfg0.N = out16 (rloads m c).args := by
  refine Dat.arrAt_eq_of_covers _ 16 _ (by decide +kernel) fun t hf y => ?_
  have hR := after0_16 m c t
  rw [ro_16, whole_0, whole_1, whole_2, whole_3, whole_4, whole_5, whole_6, whole_7, whole_8, whole_9, whole_10, whole_11, whole_12] at hR
  have h := idxO t
  blk_simp
  refine (congrFun hR y).trans (congrArg (out16 (rloads m c).args) (?_ : y = _))
  blk_ext [h]

set_option maxHeartbeats 1000000 in
/-- Output window 17's array. -/
theorem arr_17 : (dats m 0 c).arrAt 17 cfg0.N = out17 (rloads m c).args := by
  refine Dat.arrAt_eq_of_covers _ 17 _ (by decide +kernel) fun t hf y => ?_
  have hR := after0_17 m c t
  rw [ro_17, whole_0, whole_1, whole_2, whole_3, whole_4, whole_5, whole_6, whole_7, whole_8, whole_9, whole_10, whole_11, whole_12] at hR
  have h := idxO t
  blk_simp
  refine (congrFun hR y).trans (congrArg (out17 (rloads m c).args) (?_ : y = _))
  blk_ext [h]

set_option maxHeartbeats 1000000 in
/-- Output window 18's array. -/
theorem arr_18 : (dats m 0 c).arrAt 18 cfg0.N = out18 (rloads m c).args := by
  refine Dat.arrAt_eq_of_covers _ 18 _ (by decide +kernel) fun t hf y => ?_
  have hR := after0_18 m c t
  rw [ro_18, whole_0, whole_1, whole_2, whole_3, whole_4, whole_5, whole_6, whole_7, whole_8, whole_9, whole_10, whole_11, whole_12] at hR
  have h := idxO t
  blk_simp
  refine (congrFun hR y).trans (congrArg (out18 (rloads m c).args) (?_ : y = _))
  blk_ext [h]

set_option maxHeartbeats 1000000 in
/-- Output window 19's array. -/
theorem arr_19 : (dats m 0 c).arrAt 19 cfg0.N = out19 (rloads m c).args := by
  refine Dat.arrAt_eq_of_covers _ 19 _ (by decide +kernel) fun t hf y => ?_
  have hR := after0_19 m c t
  rw [ro_19, whole_0, whole_1, whole_2, whole_3, whole_4, whole_5, whole_6, whole_7, whole_8, whole_9, whole_10, whole_11, whole_12] at hR
  have h := idxO t
  blk_simp
  refine (congrFun hR y).trans (congrArg (out19 (rloads m c).args) (?_ : y = _))
  blk_ext [h]

set_option maxHeartbeats 1000000 in
/-- Output window 20's array. -/
theorem arr_20 : (dats m 0 c).arrAt 20 cfg0.N = out20 (rloads m c).args := by
  refine Dat.arrAt_eq_of_covers _ 20 _ (by decide +kernel) fun t hf y => ?_
  have hR := after0_20 m c t
  rw [ro_20, whole_0, whole_1, whole_2, whole_3, whole_4, whole_5, whole_6, whole_7, whole_8, whole_9, whole_10, whole_11, whole_12] at hR
  have h := idxO t
  blk_simp
  refine (congrFun hR y).trans (congrArg (out20 (rloads m c).args) (?_ : y = _))
  blk_ext [h]

set_option maxHeartbeats 1000000 in
/-- Output window 21's array. -/
theorem arr_21 : (dats m 0 c).arrAt 21 cfg0.N = out21 (rloads m c).args := by
  refine Dat.arrAt_eq_of_covers _ 21 _ (by decide +kernel) fun t hf y => ?_
  have hR := after0_21 m c t
  rw [ro_21, whole_0, whole_1, whole_2, whole_3, whole_4, whole_5, whole_6, whole_7, whole_8, whole_9, whole_10, whole_11, whole_12] at hR
  have h := idxO t
  blk_simp
  refine (congrFun hR y).trans (congrArg (out21 (rloads m c).args) (?_ : y = _))
  blk_ext [h]

set_option maxHeartbeats 1000000 in
/-- Output window 22's array. -/
theorem arr_22 : (dats m 0 c).arrAt 22 cfg0.N = out22 (rloads m c).args := by
  refine Dat.arrAt_eq_of_covers _ 22 _ (by decide +kernel) fun t hf y => ?_
  have hR := after0_22 m c t
  rw [ro_22, whole_0, whole_1, whole_2, whole_3, whole_4, whole_5, whole_6, whole_7, whole_8, whole_9, whole_10, whole_11, whole_12] at hR
  have h := idxO t
  blk_simp
  refine (congrFun hR y).trans (congrArg (out22 (rloads m c).args) (?_ : y = _))
  blk_ext [h]

set_option maxHeartbeats 1000000 in
/-- Output window 23's array. -/
theorem arr_23 : (dats m 0 c).arrAt 23 cfg0.N = out23 (rloads m c).args := by
  refine Dat.arrAt_eq_of_covers _ 23 _ (by decide +kernel) fun t hf y => ?_
  have hR := after0_23 m c t
  rw [ro_23, whole_0, whole_1, whole_2, whole_3, whole_4, whole_5, whole_6, whole_7, whole_8, whole_9, whole_10, whole_11, whole_12] at hR
  have h := idxO t
  blk_simp
  refine (congrFun hR y).trans (congrArg (out23 (rloads m c).args) (?_ : y = _))
  blk_ext [h]

set_option maxHeartbeats 1000000 in
/-- Output window 24's array. -/
theorem arr_24 : (dats m 0 c).arrAt 24 cfg0.N = out24 (rloads m c).args := by
  refine Dat.arrAt_eq_of_covers _ 24 _ (by decide +kernel) fun t hf y => ?_
  have hR := after0_24 m c t
  rw [ro_24, whole_0, whole_1, whole_2, whole_3, whole_4, whole_5, whole_6, whole_7, whole_8, whole_9, whole_10, whole_11, whole_12] at hR
  have h := idxO t
  blk_simp
  refine (congrFun hR y).trans (congrArg (out24 (rloads m c).args) (?_ : y = _))
  blk_ext [h]

set_option maxHeartbeats 1000000 in
/-- Output window 25's array. -/
theorem arr_25 : (dats m 0 c).arrAt 25 cfg0.N = out25 (rloads m c).args := by
  refine Dat.arrAt_eq_of_covers _ 25 _ (by decide +kernel) fun t hf y => ?_
  have hR := after0_25 m c t
  rw [ro_25, whole_0, whole_1, whole_2, whole_3, whole_4, whole_5, whole_6, whole_7, whole_8, whole_9, whole_10, whole_11, whole_12] at hR
  have h := idxO t
  blk_simp
  refine (congrFun hR y).trans (congrArg (out25 (rloads m c).args) (?_ : y = _))
  blk_ext [h]

end Cert.ReferenceIdeal.Val
-- ==== Proof.RVal.Whole.lean ====
/- The reference's arguments as the region finds them, from the arrays the call was given. -/
module

public import proofs.«01_k».proof.Proof.RVal.Fin
public import proofs.«01_k».proof.Proof.Spec.Whole
public import Idealize.ShloMosaic.Lib.Pipeline.ValueKit

@[expose] public section

noncomputable section

namespace Cert.ReferenceIdeal.Val

open Cert.ReferenceIdeal Cert.ReferenceIdeal.Gen Cert.Spec
open Idealize Idealize.ShloMosaic Idealize.ShloMosaic.TcCoe Idealize.ShloMosaic.Tactic Idealize.ShloMosaic.Pointwise

variable (m : (ℓ : Loc nD τ sig) → Buf (Elt Ideal) ℓ) (c : Dev nD)

theorem v0_at (l : Fin 35) (k : Fin 2048) (j : Fin 256) :
    (V m c main_v0 : Vec Ideal S35x2048x256 .i8) (ix3 l k j) = (m ((c.tc : Thread nD τ).loc main_arg4) : Vec Ideal S2048x35x256 .i8) (ix3 k l j) := by
  entry_read
  refine transpose_apply _ _ _ _ _ fun b => ?_
  match b with
  | ⟨0, _⟩ => rfl
  | ⟨1, _⟩ => rfl
  | ⟨2, _⟩ => rfl

theorem v1_at (l : Fin 35) (r : Fin 768) (k : Fin 2048) :
    (V m c main_v1 : Vec Ideal S35x768x2048 .bf16) (ix3 l r k)
      = (m ((c.tc : Thread nD τ).loc main_arg7) : Vec Ideal S35x2x384x2048 .bf16) (ix4 l ⟨r.val / 384, by omega⟩ ⟨r.val % 384, by omega⟩ k) := by
  entry_read
  refine shapeCast_apply (s := S35x2x384x2048) (t := S35x768x2048) _ _ _ _ ?_
  rw [Shape.rowMajor_val_four, Shape.rowMajor_val_three]
  show ((l.val * 2 + r.val / 384) * 384 + r.val % 384) * 2048 + k.val = (l.val * 768 + r.val) * 2048 + k.val
  omega

/-- The reference's arguments, from the arrays the call was given. -/
theorem rargs_eq : (rloads m c).args = argsOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) := by
  unfold rloads ofx Loads.args argsOf
  dsimp only
  rw [V_main_arg0 m c, V_main_arg1 m c, V_main_arg2 m c, V_main_arg3 m c, V_main_arg5 m c, V_main_arg6 m c, V_main_arg8 m c, V_main_arg9 m c, V_main_arg10 m c,
    V_main_arg11 m c, V_main_arg12 m c]
  have e0 : (fun l k j => (V m c main_v0 : Vec Ideal S35x2048x256 .i8) (ix3 l k j))
      = fun l k j => (m ((c.tc : Thread nD τ).loc main_arg4) : Vec Ideal S2048x35x256 .i8) (ix3 k l j) :=
    funext fun l => funext fun k => funext fun j => v0_at m c l k j
  have e2 : (fun l r k => (V m c main_v1 : Vec Ideal S35x768x2048 .bf16) (ix3 l r k))
      = fun (l : Fin 35) (r : Fin 768) k => (m ((c.tc : Thread nD τ).loc main_arg7) : Vec Ideal S35x2x384x2048 .bf16) (ix4 l ⟨r.val / 384, by omega⟩ ⟨r.val % 384, by omega⟩ k) :=
    funext fun l => funext fun r => funext fun k => v1_at m c l r k
  rw [e0, e2]

end Cert.ReferenceIdeal.Val
-- ==== Proof.RVal.Run.lean ====
/- The reference's run: what its results hold when it ends. -/
module

public import proofs.«01_k».proof.Proof.RVal.Whole

@[expose] public section

set_option maxRecDepth 16384

noncomputable section

namespace Cert.ReferenceIdeal.Val

open Cert.ReferenceIdeal Cert.ReferenceIdeal.Gen Cert.Spec
open Idealize Idealize.ShloMosaic Idealize.ShloMosaic.TcCoe
open Idealize.SL Idealize.SL.Sem

variable (m : (ℓ : Loc nD τ sig) → Buf (Elt Ideal) ℓ) (ρ : Dev nD → PrngReg)

set_option maxHeartbeats 2000000 in
/-- Every run of the reference ends with the thirteen results holding the outputs of its arguments. -/
theorem results : θ_run defs (onTc (τ := τ) (main (F := Ideal))) ⟨m, fun _ => 0, ρ⟩ (fun r => ∀ c : Dev nD,
      r.2.mem ((c.tc : Thread nD τ).loc main_v2_0) = out13 (rloads m c).args
      ∧ r.2.mem ((c.tc : Thread nD τ).loc main_v2_1) = out14 (rloads m c).args
      ∧ r.2.mem ((c.tc : Thread nD τ).loc main_v2_2) = out15 (rloads m c).args
      ∧ r.2.mem ((c.tc : Thread nD τ).loc main_v2_3) = out16 (rloads m c).args
      ∧ r.2.mem ((c.tc : Thread nD τ).loc main_v2_4) = out17 (rloads m c).args
      ∧ r.2.mem ((c.tc : Thread nD τ).loc main_v2_5) = out18 (rloads m c).args
      ∧ r.2.mem ((c.tc : Thread nD τ).loc main_v2_6) = out19 (rloads m c).args
      ∧ r.2.mem ((c.tc : Thread nD τ).loc main_v2_7) = out20 (rloads m c).args
      ∧ r.2.mem ((c.tc : Thread nD τ).loc main_v2_8) = out21 (rloads m c).args
      ∧ r.2.mem ((c.tc : Thread nD τ).loc main_v2_9) = out22 (rloads m c).args
      ∧ r.2.mem ((c.tc : Thread nD τ).loc main_v2_10) = out23 (rloads m c).args
      ∧ r.2.mem ((c.tc : Thread nD τ).loc main_v2_11) = out24 (rloads m c).args
      ∧ r.2.mem ((c.tc : Thread nD τ).loc main_v2_12) = out25 (rloads m c).args) :=
  (θ_run defs _ _).mono (fun r h c => ⟨((h c).1 13).trans (arr_13 m c),
      ((h c).1 14).trans (arr_14 m c),
      ((h c).1 15).trans (arr_15 m c),
      ((h c).1 16).trans (arr_16 m c),
      ((h c).1 17).trans (arr_17 m c),
      ((h c).1 18).trans (arr_18 m c),
      ((h c).1 19).trans (arr_19 m c),
      ((h c).1 20).trans (arr_20 m c),
      ((h c).1 21).trans (arr_21 m c),
      ((h c).1 22).trans (arr_22 m c),
      ((h c).1 23).trans (arr_23 m c),
      ((h c).1 24).trans (arr_24 m c),
      ((h c).1 25).trans (arr_25 m c)⟩) (run_main m ρ)

end Cert.ReferenceIdeal.Val
-- ==== Proof.Alg.lean ====
/- The value claim: the kernel and the reference end with the same thirteen results. -/
module

public import proofs.«01_k».proof.Defs
public import proofs.«01_k».proof.Proof.KVal.Fin
public import proofs.«01_k».proof.Proof.KVal.Whole
public import proofs.«01_k».proof.Proof.RVal.Run

@[expose] public section

set_option maxRecDepth 16384

noncomputable section

namespace Cert.Proof

open Idealize Idealize.ShloMosaic Idealize.SL Idealize.SL.Sem Cert.Spec

/-- Equal arrays give equal arguments. -/
theorem argsOf_congr {a0 b0 : (⟨2, ![768, 2048]⟩ : Shape).Idx → BitVec 8}
    {a1 b1 : (⟨2, ![768, 128]⟩ : Shape).Idx → EReal}
    {a2 b2 : (⟨3, ![35, 768, 128]⟩ : Shape).Idx → BitVec 8}
    {a3 b3 : (⟨2, ![768, 128]⟩ : Shape).Idx → EReal}
    {a4 b4 : (⟨3, ![2048, 35, 256]⟩ : Shape).Idx → BitVec 8}
    {a5 b5 : (⟨2, ![35, 256]⟩ : Shape).Idx → EReal}
    {a6 b6 : (⟨1, ![256]⟩ : Shape).Idx → EReal}
    {a7 b7 : (⟨4, ![35, 2, 384, 2048]⟩ : Shape).Idx → EReal}
    {a8 b8 : (⟨3, ![35, 2048, 256]⟩ : Shape).Idx → BitVec 8}
    {a9 b9 : (⟨2, ![35, 256]⟩ : Shape).Idx → EReal}
    {a10 b10 : (⟨3, ![35, 256, 2048]⟩ : Shape).Idx → BitVec 8}
    {a11 b11 : (⟨2, ![35, 2048]⟩ : Shape).Idx → EReal}
    {a12 b12 : (⟨2, ![35, 2048]⟩ : Shape).Idx → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) :
    argsOf a0 a1 a2 a3 a4 a5 a6 a7 a8 a9 a10 a11 a12 = argsOf b0 b1 b2 b3 b4 b5 b6 b7 b8 b9 b10 b11 b12 := by
  subst h0 h1 h2 h3 h4 h5 h6 h7 h8 h9 h10 h11 h12
  rfl

set_option maxHeartbeats 2000000 in
/-- From memories that agree on the thirteen arguments, every run of the kernel and every run of the reference end with the same
    thirteen results, and with the arguments unchanged. -/
theorem algebraic :
    @Cert.algebraic_KernelIdeal_ReferenceIdeal Cert.KernelIdeal.Gen.facts Cert.ReferenceIdeal.Gen.facts := by
  intro m g m' g' _ h
  have e : ∀ c, (Cert.ReferenceIdeal.Val.rloads m' c).args = Cert.KernelIdeal.Val.kargs m c := fun c =>
    (Cert.ReferenceIdeal.Val.rargs_eq m' c).trans
      ((argsOf_congr (h c).1 (h c).2.1 (h c).2.2.1 (h c).2.2.2.1 (h c).2.2.2.2.1 (h c).2.2.2.2.2.1 (h c).2.2.2.2.2.2.1 (h c).2.2.2.2.2.2.2.1 (h c).2.2.2.2.2.2.2.2.1 (h c).2.2.2.2.2.2.2.2.2.1 (h c).2.2.2.2.2.2.2.2.2.2.1 (h c).2.2.2.2.2.2.2.2.2.2.2.1 (h c).2.2.2.2.2.2.2.2.2.2.2.2).trans
        (Cert.KernelIdeal.Val.kargs_eq m c).symm)
  refine ⟨fun c => out13 (Cert.KernelIdeal.Val.kargs m c), fun c => out14 (Cert.KernelIdeal.Val.kargs m c), fun c => out15 (Cert.KernelIdeal.Val.kargs m c), fun c => out16 (Cert.KernelIdeal.Val.kargs m c), fun c => out17 (Cert.KernelIdeal.Val.kargs m c), fun c => out18 (Cert.KernelIdeal.Val.kargs m c), fun c => out19 (Cert.KernelIdeal.Val.kargs m c), fun c => out20 (Cert.KernelIdeal.Val.kargs m c), fun c => out21 (Cert.KernelIdeal.Val.kargs m c), fun c => out22 (Cert.KernelIdeal.Val.kargs m c), fun c => out23 (Cert.KernelIdeal.Val.kargs m c), fun c => out24 (Cert.KernelIdeal.Val.kargs m c), fun c => out25 (Cert.KernelIdeal.Val.kargs m c), ?_, ?_⟩
  · refine (θ_run _ _ _).mono (fun r q c => ?_) (θ_run_and (Cert.KernelIdeal.Val.results m g) (Cert.KernelIdeal.Val.unchanged m g))
    obtain ⟨r0, r1, r2, r3, r4, r5, r6, r7, r8, r9, r10, r11, r12⟩ := q.1 c
    exact ⟨r0, r1, r2, r3, r4, r5, r6, r7, r8, r9, r10, r11, r12, q.2 c⟩
  · refine (θ_run _ _ _).mono (fun r q c => ?_) (θ_run_and (Cert.ReferenceIdeal.Val.results m' g') (Cert.ReferenceIdeal.Gen.unchanged m' g'))
    obtain ⟨r0, r1, r2, r3, r4, r5, r6, r7, r8, r9, r10, r11, r12⟩ := q.1 c
    exact ⟨r0.trans (congrArg out13 (e c)), r1.trans (congrArg out14 (e c)), r2.trans (congrArg out15 (e c)), r3.trans (congrArg out16 (e c)), r4.trans (congrArg out17 (e c)), r5.trans (congrArg out18 (e c)), r6.trans (congrArg out19 (e c)), r7.trans (congrArg out20 (e c)), r8.trans (congrArg out21 (e c)), r9.trans (congrArg out22 (e c)), r10.trans (congrArg out23 (e c)), r11.trans (congrArg out24 (e c)), r12.trans (congrArg out25 (e c)), q.2 c⟩

end Cert.Proof
-- ==== Proof.KFrame.Runs.lean ====
/- What the runs of the kernel's body share, at any float type: the post of a run, the branch conditions over the grid points, the
   staging memrefs and the scratch operands. -/
module

public import proofs.«01_k».proof.Proof.Gen.Kernel.Frame
public import proofs.«01_k».proof.Proof.Gen.Kernel.Skeleton

@[expose] public section

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1560000 in
/-- For any proof data whose arrays are those at the call, a run to the pipeline's post leaves every argument array unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 2) — by arithmetic of the point. -/
theorem hcond0_0 : ∀ t : Fin cfg0.N, cond0_0 (grid0.coords t) ↔ t.val % 2 = 0 :=
  (fun t => by
    have ht : t.val < 70 := Nat.lt_of_lt_of_eq t.isLt N_0
    have e0 : (grid0.coords t 0).val = t.val / 2 % 35 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 0 (mod 2) — by arithmetic of the point. -/
theorem hcond0_1 : ∀ t : Fin cfg0.N, cond0_1 (grid0.coords t) ↔ t.val % 2 = 0 :=
  (fun t => by
    have ht : t.val < 70 := Nat.lt_of_lt_of_eq t.isLt N_0
    have e0 : (grid0.coords t 0).val = t.val / 2 % 35 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — by arithmetic of the point. -/
theorem hcond0_2 : ∀ t : Fin cfg0.N, cond0_2 (grid0.coords t) ↔ t.val % 2 = 1 :=
  (fun t => by
    have ht : t.val < 70 := Nat.lt_of_lt_of_eq t.isLt N_0
    have e0 : (grid0.coords t 0).val = t.val / 2 % 35 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S768x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S35x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384x2048 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x256 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S35x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x2048 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S35x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S35x2048 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x384x2048 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2x384 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x2x384 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x384x256 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x2x384 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x384x2048 .i8 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x2x384 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x384x256 .i8 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x2x384 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1x384x256 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x384x256 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x384x256 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x384x2048 .f32 := win0_25.stage (cfg0.slots t 25)
abbrev hs0_25 (t : Fin cfg0.N) : (ms0_25 t).IsWhole := hstage0_25 ((cfg0.slots t 25).cast nbuf0_25)
/-- The scratch operands: whole scoped buffers of the kernel's own, passed beside the windows. -/
abbrev scM0_0 : Memref sig .tc .vmem S2048x256 .bf16 := Memref.whole cc0_scratch0
abbrev scM0_1 : Memref sig .tc .vmem S2048x256 .bf16 := Memref.whole cc0_scratch1
abbrev scM0_2 : Memref sig .tc .vmem S256x2048 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Frm
-- ==== Proof.KFrame.RunA.lean ====
/- The run of the kernel's body at the first tile of a layer. -/
module

public import proofs.«01_k».proof.Proof.KFrame.Runs

@[expose] public section

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1028000 in
/-- At the first tile of a layer the body runs to the end: the inputs are handed back as they were, the outputs and the scratch at some contents. -/
theorem kernelRun0_A (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : cond0_0 i) (hc1 : cond0_1 i) (hc2 : ¬cond0_2 i)
    (x0 : Vec F S768x2048 .i8) (x1 : Vec F S768x128 .f32) (x2 : Vec F S1x384x128 .i8) (x3 : Vec F S768x128 .f32) (x4 : Vec F S1x2048x256 .i8) (x5 : Vec F S35x256 .f32) (x6 : Vec F S1x256 .f32) (x7 : Vec F S1x384x2048 .bf16) (x8 : Vec F S1x2048x256 .i8) (x9 : Vec F S35x256 .f32) (x10 : Vec F S1x256x2048 .i8) (x11 : Vec F S35x2048 .f32) (x12 : Vec F S35x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_ple_inject i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
    intro E K
    simp only [cc0_ple_inject_eq_skeleton]; unfold cc0_ple_inject_skel
    simp only [k0_part20_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Frm
-- ==== Proof.KFrame.RunB.lean ====
/- The run of the kernel's body at the second tile of a layer. -/
module

public import proofs.«01_k».proof.Proof.KFrame.RunA

@[expose] public section

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- At the second tile of a layer the body runs to the end: the inputs are handed back as they were, the outputs and the scratch at some contents. -/
theorem kernelRun0_B (c : Dev nD) (i : grid0.Coords) (arg2 : Memref sig .tc .vmem S768x2048 .i8) (harg2 : arg2.IsWhole) (arg3 : Memref sig .tc .vmem S768x128 .f32) (harg3 : arg3.IsWhole) (arg4 : Memref sig .tc .vmem S1x384x128 .i8) (harg4 : arg4.IsWhole) (arg5 : Memref sig .tc .vmem S768x128 .f32) (harg5 : arg5.IsWhole) (arg6 : Memref sig .tc .vmem S1x2048x256 .i8) (harg6 : arg6.IsWhole) (arg7 : Memref sig .tc .vmem S35x256 .f32) (harg7 : arg7.IsWhole) (arg8 : Memref sig .tc .vmem S1x256 .f32) (harg8 : arg8.IsWhole) (arg9 : Memref sig .tc .vmem S1x384x2048 .bf16) (harg9 : arg9.IsWhole) (arg10 : Memref sig .tc .vmem S1x2048x256 .i8) (harg10 : arg10.IsWhole) (arg11 : Memref sig .tc .vmem S35x256 .f32) (harg11 : arg11.IsWhole) (arg12 : Memref sig .tc .vmem S1x256x2048 .i8) (harg12 : arg12.IsWhole) (arg13 : Memref sig .tc .vmem S35x2048 .f32) (harg13 : arg13.IsWhole) (arg14 : Memref sig .tc .vmem S35x2048 .f32) (harg14 : arg14.IsWhole) (arg15 : Memref sig .tc .vmem S1x384x2048 .bf16) (harg15 : arg15.IsWhole) (arg16 : Memref sig .tc .vmem S1x2x384 .f32) (harg16 : arg16.IsWhole) (arg17 : Memref sig .tc .vmem S1x2x384 .f32) (harg17 : arg17.IsWhole) (arg18 : Memref sig .tc .vmem S1x1x384x256 .i8) (harg18 : arg18.IsWhole) (arg19 : Memref sig .tc .vmem S1x2x384 .f32) (harg19 : arg19.IsWhole) (arg20 : Memref sig .tc .vmem S1x384x2048 .i8) (harg20 : arg20.IsWhole) (arg21 : Memref sig .tc .vmem S1x2x384 .f32) (harg21 : arg21.IsWhole) (arg22 : Memref sig .tc .vmem S1x384x256 .i8) (harg22 : arg22.IsWhole) (arg23 : Memref sig .tc .vmem S1x2x384 .f32) (harg23 : arg23.IsWhole) (arg24 : Memref sig .tc .vmem S1x1x384x256 .f32) (harg24 : arg24.IsWhole) (arg25 : Memref sig .tc .vmem S1x384x256 .f32) (harg25 : arg25.IsWhole) (arg26 : Memref sig .tc .vmem S1x384x256 .f32) (harg26 : arg26.IsWhole) (arg27 : Memref sig .tc .vmem S1x384x2048 .f32) (harg27 : arg27.IsWhole) (arg28 : Memref sig .tc .vmem S2048x256 .bf16) (harg28 : arg28.IsWhole) (arg29 : Memref sig .tc .vmem S2048x256 .bf16) (harg29 : arg29.IsWhole) (arg30 : Memref sig .tc .vmem S256x2048 .bf16) (harg30 : arg30.IsWhole) (hc0 : ¬cond0_0 i) (hc1 : ¬cond0_1 i) (hc2 : cond0_2 i)
    (x0 : Vec F S768x2048 .i8) (x1 : Vec F S768x128 .f32) (x2 : Vec F S1x384x128 .i8) (x3 : Vec F S768x128 .f32) (x4 : Vec F S1x2048x256 .i8) (x5 : Vec F S35x256 .f32) (x6 : Vec F S1x256 .f32) (x7 : Vec F S1x384x2048 .bf16) (x8 : Vec F S1x2048x256 .i8) (x9 : Vec F S35x256 .f32) (x10 : Vec F S1x256x2048 .i8) (x11 : Vec F S35x2048 .f32) (x12 : Vec F S35x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩))
          ⊢ wp frame (wpE (defs₀ (F := F)) Variants.none c none) E (cc0_ple_inject i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
    intro E K
    simp only [cc0_ple_inject_eq_skeleton]; unfold cc0_ple_inject_skel
    simp only [k0_part20_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Frm
-- ==== Proof.KFrame.Frame.lean ====
/- The frame of the kernel at any float type: every run ends, with the argument arrays unchanged and the counters at zero; nothing is
   said of the outputs. -/
module

public import proofs.«01_k».proof.Proof.KFrame.RunB
public import Idealize.ShloMosaic.Lib.Claim

@[expose] public section

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (13, 14, 15, 16, 17, 18, 19, 20, 21, 22, 23, 24, 25): nothing reads what the kernel leaves in them, so nothing
    of it is named (Lib/Pipeline/Dat.lean `Dat.toRForget`). -/
def forgets0 : Fin 26 → Bool := fun w => w.val == 13 || w.val == 14 || w.val == 15 || w.val == 16 || w.val == 17 || w.val == 18 || w.val == 19 || w.val == 20 || w.val == 21 || w.val == 22 || w.val == 23 || w.val == 24 || w.val == 25

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

set_option maxHeartbeats 2000000 in
/-- The body at the first tile of a layer. -/
theorem sound_A (c : Dev nD) (t : Fin cfg0.N) (h0 : t.val % 2 = 0) (h1 : t.val % 2 = 0) (h2 : ¬t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 2000000 in
/-- The body at the second tile of a layer. -/
theorem sound_B (c : Dev nD) (t : Fin cfg0.N) (h0 : ¬t.val % 2 = 0) (h1 : ¬t.val % 2 = 0) (h2 : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body at any grid point. -/
theorem sound_body (c : Dev nD) (t : Fin cfg0.N) :
    bodyPre m c t ⊢ wp frame (wpE (defs₀ (F := F)) Variants.none c none) Set.univ (bodyAt0 t) (fun _ => bodyPost m c t) := by
  by_cases h : t.val % 2 = 0
  · exact sound_A m c t h h (by omega)
  · exact sound_B m c t h h (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- Every run ends, with the inputs as they were and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the inputs as they were. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) (run_main m ρ)

/-- The frame claim, at any float type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel.Frm
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Alg
public import proofs.«01_k».proof.Proof.KFrame.Frame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Frm.frame m ρ,
    fun m ρ _ => Cert.KernelIdeal.Val.frame m ρ,
    fun m ρ _ => Cert.ReferenceIdeal.Gen.frame m ρ,
    trivial,
    algebraic⟩

end Cert.Proof

end
